-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_full_segments [hPre_full_segments : Cert.Pre_full_segments.Facts] (m : (ℓ : Loc Cert.KernelIdeal.nD Cert.KernelIdeal.τ Cert.KernelIdeal.sig) → Buf (Elt Ideal) ℓ) : Prop :=
  ∀ c : Dev Cert.KernelIdeal.nD,
    (Cert.Pre_full_segments.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_full_segments [hPre_full_segments : Cert.Pre_full_segments.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_full_segments.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_full_segments [hKernelIdeal : Cert.KernelIdeal.Facts] [hPre_full_segments : Cert.Pre_full_segments.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_full_segments m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_full_segments [hReferenceIdeal : Cert.ReferenceIdeal.Facts] [hPre_full_segments : Cert.Pre_full_segments.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_full_segments m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_full_segments [hKernelIdeal : Cert.KernelIdeal.Facts] [hReferenceIdeal : Cert.ReferenceIdeal.Facts] [hPre_full_segments : Cert.Pre_full_segments.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_full_segments m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_full_segments : Cert.Pre_full_segments.Facts),
    quiescent_Kernel (hKernel := hKernel)
    ∧ quiescent_KernelIdeal (hKernelIdeal := hKernelIdeal)
    ∧ quiescent_KernelIdeal_pre_full_segments (hKernelIdeal := hKernelIdeal) (hPre_full_segments := hPre_full_segments)
    ∧ quiescent_ReferenceIdeal (hReferenceIdeal := hReferenceIdeal)
    ∧ quiescent_ReferenceIdeal_pre_full_segments (hReferenceIdeal := hReferenceIdeal) (hPre_full_segments := hPre_full_segments)
    ∧ preserves_Kernel_KernelIdeal
    ∧ algebraic_KernelIdeal_ReferenceIdeal_pre_full_segments (hKernelIdeal := hKernelIdeal) (hReferenceIdeal := hReferenceIdeal) (hPre_full_segments := hPre_full_segments)
-- ==== Pre_full_segments.lean ====
abbrev S32768x256 : Shape := ⟨2, ![32768, 256]⟩
abbrev S512x256 : Shape := ⟨2, ![512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S16 : Shape := ⟨1, ![16]⟩
abbrev S_ : Shape := ⟨0, ![]⟩

class Facts : Prop where
  bcast_S_S16 : S_.BroadcastsInDim S16 (![] : Fin 0 → Fin S16.rank)
  reducesTo_S16_S_d0 : S16.ReducesTo [0] S_
  h_S_ : 0 < S_.numel

variable [Facts]

def fn {F : FTy → Type} [FloatOps F] (main_arg0 : FVec F S32768x256 .f32) (main_arg1 : FVec F S32768x256 .f32) (main_arg2 : FVec F S512x256 .f32) (main_arg3 : FVec F S256 .f32) (main_arg4 : FVec F S256x256 .f32) (main_arg5 : FVec F S256 .f32) (main_arg6 : FVec F S256x1 .f32) (main_arg7 : FVec F S1 .f32) (main_arg8 : IVec S16 32) : IVec S_ 1 :=
  let main_c : IVec S_ 32 := constantI S_ 32 2048#32
  let main_v0 : IVec S16 32 := broadcastInDim S16 ![] bcast_S_S16 main_c
  let main_v1 : IVec S16 1 := cmpi .eq main_arg8 main_v0
  let main_c_0 : IVec S_ 1 := constantI S_ 1 1#1
  let main_v2 : IVec S_ 1 := (fun x v => Host.reduce IntOp.andi x v reducesTo_S16_S_d0 h_S_) main_v1 main_c_0
  main_v2
-- ==== Kernel.lean ====
abbrev S32768x256 : Shape := ⟨2, ![32768, 256]⟩
abbrev S512x256 : Shape := ⟨2, ![512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S16 : Shape := ⟨1, ![16]⟩
abbrev S32x512 : Shape := ⟨2, ![32, 512]⟩
abbrev S128x256 : Shape := ⟨2, ![128, 256]⟩
abbrev S512 : Shape := ⟨1, ![512]⟩
abbrev S_ : Shape := ⟨0, ![]⟩
abbrev S1x16 : Shape := ⟨2, ![1, 16]⟩
abbrev S1x512 : Shape := ⟨2, ![1, 512]⟩
abbrev S16x2x512 : Shape := ⟨3, ![16, 2, 512]⟩
abbrev S16x1 : Shape := ⟨2, ![16, 1]⟩
abbrev S1x256 : Shape := ⟨2, ![1, 256]⟩
abbrev S1x1 : Shape := ⟨2, ![1, 1]⟩
abbrev S16x1x512 : Shape := ⟨3, ![16, 1, 512]⟩
abbrev S16x512 : Shape := ⟨2, ![16, 512]⟩
abbrev S16x256 : Shape := ⟨2, ![16, 256]⟩

abbrev nBuf : Table → Nat
  | .hbm => 18
  | .local .tc .vmem => 9
  | .local .scVector .vmem => 2
  | _ => 0

abbrev bufTy : (tb : Table) → Fin (nBuf tb) → BufTy
  | .hbm, ⟨0, _⟩ => ⟨S32768x256, .f32⟩
  | .hbm, ⟨1, _⟩ => ⟨S32768x256, .f32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S16, .i32⟩
  | .hbm, ⟨9, _⟩ => ⟨S32x512, .f32⟩
  | .hbm, ⟨10, _⟩ => ⟨S16x2x512, .f32⟩
  | .hbm, ⟨11, _⟩ => ⟨S16, .f32⟩
  | .hbm, ⟨12, _⟩ => ⟨S16x1, .f32⟩
  | .hbm, ⟨13, _⟩ => ⟨S1x256, .f32⟩
  | .hbm, ⟨14, _⟩ => ⟨S1x256, .f32⟩
  | .hbm, ⟨15, _⟩ => ⟨S1x1, .f32⟩
  | .hbm, ⟨16, _⟩ => ⟨S16x1, .f32⟩
  | .hbm, ⟨17, _⟩ => ⟨S16, .f32⟩
  | .local .tc .vmem, ⟨0, _⟩ => ⟨S16x2x512, .f32⟩
  | .local .tc .vmem, ⟨1, _⟩ => ⟨S16x1, .f32⟩
  | .local .tc .vmem, ⟨2, _⟩ => ⟨S512x256, .f32⟩
  | .local .tc .vmem, ⟨3, _⟩ => ⟨S1x256, .f32⟩
  | .local .tc .vmem, ⟨4, _⟩ => ⟨S256x256, .f32⟩
  | .local .tc .vmem, ⟨5, _⟩ => ⟨S1x256, .f32⟩
  | .local .tc .vmem, ⟨6, _⟩ => ⟨S256x1, .f32⟩
  | .local .tc .vmem, ⟨7, _⟩ => ⟨S1x1, .f32⟩
  | .local .tc .vmem, ⟨8, _⟩ => ⟨S16x1, .f32⟩
  | .local .scVector .vmem, ⟨0, _⟩ => ⟨S128x256, .f32⟩
  | .local .scVector .vmem, ⟨1, _⟩ => ⟨S512, .f32⟩
  | _, _ => ⟨S32768x256, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 12 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTables nBuf rfl bufTy 4 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_arg0_scv : Ref sig .scVector := ⟨.hbm, 0, rfl⟩
abbrev main_arg1_scv : Ref sig .scVector := ⟨.hbm, 1, rfl⟩
abbrev main_v0_scv : Ref sig .scVector := ⟨.hbm, 9, rfl⟩
abbrev cc1_stg0_0 : Ref sig .tc := ⟨.vmem, 0, rfl⟩
abbrev cc1_stg1_0 : Ref sig .tc := ⟨.vmem, 1, rfl⟩
abbrev cc1_stg2_0 : Ref sig .tc := ⟨.vmem, 2, rfl⟩
abbrev cc1_stg3_0 : Ref sig .tc := ⟨.vmem, 3, rfl⟩
abbrev cc1_stg4_0 : Ref sig .tc := ⟨.vmem, 4, rfl⟩
abbrev cc1_stg5_0 : Ref sig .tc := ⟨.vmem, 5, rfl⟩
abbrev cc1_stg6_0 : Ref sig .tc := ⟨.vmem, 6, rfl⟩
abbrev cc1_stg7_0 : Ref sig .tc := ⟨.vmem, 7, rfl⟩
abbrev cc1_stg8_0 : Ref sig .tc := ⟨.vmem, 8, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem1_0 : DmaSem sig := 4
abbrev cc1_sem2_0 : DmaSem sig := 5
abbrev cc1_sem3_0 : DmaSem sig := 6
abbrev cc1_sem4_0 : DmaSem sig := 7
abbrev cc1_sem5_0 : DmaSem sig := 8
abbrev cc1_sem6_0 : DmaSem sig := 9
abbrev cc1_sem7_0 : DmaSem sig := 10
abbrev cc1_sem8_0 : DmaSem sig := 11
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c8_i32 : BitVec 32 := 8#32
  let v4 : BitVec 32 := Scalar.addi c0_i32 c8_i32
  let c1_i32 : BitVec 32 := 1#32
  ⟨c0_i32, v4, c1_i32⟩
def k0_off1 (i : grid0.Coords) (k0_t1 : Fin k0_t1_loop.trips) : Fin 2 → Nat :=
  let arg1 : BitVec 32 := BitVec.ofNat 32 (i 1).val
  let c2048_i32 : BitVec 32 := 2048#32
  let v0 : BitVec 32 := Scalar.muli arg1 c2048_i32
  let arg0 : BitVec 32 := BitVec.ofNat 32 (i 0).val
  let c1024_i32 : BitVec 32 := 1024#32
  let v1 : BitVec 32 := Scalar.muli arg0 c1024_i32
  let v2 : BitVec 32 := Scalar.addi v0 v1
  let c0_i32 : BitVec 32 := 0#32
  let c1_i32 : BitVec 32 := 1#32
  let arg7 : BitVec 32 := Scf.iv c0_i32 c1_i32 k0_t1
  let c128_i32 : BitVec 32 := 128#32
  let v107 : BitVec 32 := Scalar.muli arg7 c128_i32
  let v108 : BitVec 32 := Scalar.addi v2 v107
  let c0_i32_10_r0 : BitVec 32 := 0#32
  ![v108.toNat, 0]
@[reducible] def k0_t2_loop : Scf.Loop 32 :=
  let c0_i32_6 : BitVec 32 := 0#32
  let c128_i32_7 : BitVec 32 := 128#32
  let v109 : BitVec 32 := Scalar.addi c0_i32_6 c128_i32_7
  let c1_i32_8 : BitVec 32 := 1#32
  ⟨c0_i32_6, v109, c1_i32_8⟩
def k0_off2 (k0_t2 : Fin k0_t2_loop.trips) : Fin 2 → Nat :=
  let c0_i32_6 : BitVec 32 := 0#32
  let c1_i32_8 : BitVec 32 := 1#32
  let arg24 : BitVec 32 := Scf.iv c0_i32_6 c1_i32_8 k0_t2
  let v111 : Index := Scalar.indexCast arg24
  let c0_10 : Index := 0#32
  ![v111.toNat, 0]
def k0_off3 (k0_t2 : Fin k0_t2_loop.trips) : Fin 2 → Nat :=
  let c0_i32_6 : BitVec 32 := 0#32
  let c1_i32_8 : BitVec 32 := 1#32
  let arg24 : BitVec 32 := Scf.iv c0_i32_6 c1_i32_8 k0_t2
  let v115 : Index := Scalar.indexCast arg24
  let c16_11 : Index := 16#32
  ![v115.toNat, 16]
def k0_off4 (k0_t2 : Fin k0_t2_loop.trips) : Fin 2 → Nat :=
  let c0_i32_6 : BitVec 32 := 0#32
  let c1_i32_8 : BitVec 32 := 1#32
  let arg24 : BitVec 32 := Scf.iv c0_i32_6 c1_i32_8 k0_t2
  let v119 : Index := Scalar.indexCast arg24
  let c32_12 : Index := 32#32
  ![v119.toNat, 32]
def k0_off5 (k0_t2 : Fin k0_t2_loop.trips) : Fin 2 → Nat :=
  let c0_i32_6 : BitVec 32 := 0#32
  let c1_i32_8 : BitVec 32 := 1#32
  let arg24 : BitVec 32 := Scf.iv c0_i32_6 c1_i32_8 k0_t2
  let v123 : Index := Scalar.indexCast arg24
  let c48_13 : Index := 48#32
  ![v123.toNat, 48]
def k0_off6 (k0_t2 : Fin k0_t2_loop.trips) : Fin 2 → Nat :=
  let c0_i32_6 : BitVec 32 := 0#32
  let c1_i32_8 : BitVec 32 := 1#32
  let arg24 : BitVec 32 := Scf.iv c0_i32_6 c1_i32_8 k0_t2
  let v127 : Index := Scalar.indexCast arg24
  let c64_14 : Index := 64#32
  ![v127.toNat, 64]
def k0_off7 (k0_t2 : Fin k0_t2_loop.trips) : Fin 2 → Nat :=
  let c0_i32_6 : BitVec 32 := 0#32
  let c1_i32_8 : BitVec 32 := 1#32
  let arg24 : BitVec 32 := Scf.iv c0_i32_6 c1_i32_8 k0_t2
  let v131 : Index := Scalar.indexCast arg24
  let c80_15 : Index := 80#32
  ![v131.toNat, 80]
def k0_off8 (k0_t2 : Fin k0_t2_loop.trips) : Fin 2 → Nat :=
  let c0_i32_6 : BitVec 32 := 0#32
  let c1_i32_8 : BitVec 32 := 1#32
  let arg24 : BitVec 32 := Scf.iv c0_i32_6 c1_i32_8 k0_t2
  let v135 : Index := Scalar.indexCast arg24
  let c96_16 : Index := 96#32
  ![v135.toNat, 96]
def k0_off9 (k0_t2 : Fin k0_t2_loop.trips) : Fin 2 → Nat :=
  let c0_i32_6 : BitVec 32 := 0#32
  let c1_i32_8 : BitVec 32 := 1#32
  let arg24 : BitVec 32 := Scf.iv c0_i32_6 c1_i32_8 k0_t2
  let v139 : Index := Scalar.indexCast arg24
  let c112_17 : Index := 112#32
  ![v139.toNat, 112]
def k0_off10 (k0_t2 : Fin k0_t2_loop.trips) : Fin 2 → Nat :=
  let c0_i32_6 : BitVec 32 := 0#32
  let c1_i32_8 : BitVec 32 := 1#32
  let arg24 : BitVec 32 := Scf.iv c0_i32_6 c1_i32_8 k0_t2
  let v143 : Index := Scalar.indexCast arg24
  let c128_18 : Index := 128#32
  ![v143.toNat, 128]
def k0_off11 (k0_t2 : Fin k0_t2_loop.trips) : Fin 2 → Nat :=
  let c0_i32_6 : BitVec 32 := 0#32
  let c1_i32_8 : BitVec 32 := 1#32
  let arg24 : BitVec 32 := Scf.iv c0_i32_6 c1_i32_8 k0_t2
  let v147 : Index := Scalar.indexCast arg24
  let c144_19 : Index := 144#32
  ![v147.toNat, 144]
def k0_off12 (k0_t2 : Fin k0_t2_loop.trips) : Fin 2 → Nat :=
  let c0_i32_6 : BitVec 32 := 0#32
  let c1_i32_8 : BitVec 32 := 1#32
  let arg24 : BitVec 32 := Scf.iv c0_i32_6 c1_i32_8 k0_t2
  let v151 : Index := Scalar.indexCast arg24
  let c160_20 : Index := 160#32
  ![v151.toNat, 160]
def k0_off13 (k0_t2 : Fin k0_t2_loop.trips) : Fin 2 → Nat :=
  let c0_i32_6 : BitVec 32 := 0#32
  let c1_i32_8 : BitVec 32 := 1#32
  let arg24 : BitVec 32 := Scf.iv c0_i32_6 c1_i32_8 k0_t2
  let v155 : Index := Scalar.indexCast arg24
  let c176_21 : Index := 176#32
  ![v155.toNat, 176]
def k0_off14 (k0_t2 : Fin k0_t2_loop.trips) : Fin 2 → Nat :=
  let c0_i32_6 : BitVec 32 := 0#32
  let c1_i32_8 : BitVec 32 := 1#32
  let arg24 : BitVec 32 := Scf.iv c0_i32_6 c1_i32_8 k0_t2
  let v159 : Index := Scalar.indexCast arg24
  let c192_22 : Index := 192#32
  ![v159.toNat, 192]
def k0_off15 (k0_t2 : Fin k0_t2_loop.trips) : Fin 2 → Nat :=
  let c0_i32_6 : BitVec 32 := 0#32
  let c1_i32_8 : BitVec 32 := 1#32
  let arg24 : BitVec 32 := Scf.iv c0_i32_6 c1_i32_8 k0_t2
  let v163 : Index := Scalar.indexCast arg24
  let c208_23 : Index := 208#32
  ![v163.toNat, 208]
def k0_off16 (k0_t2 : Fin k0_t2_loop.trips) : Fin 2 → Nat :=
  let c0_i32_6 : BitVec 32 := 0#32
  let c1_i32_8 : BitVec 32 := 1#32
  let arg24 : BitVec 32 := Scf.iv c0_i32_6 c1_i32_8 k0_t2
  let v167 : Index := Scalar.indexCast arg24
  let c224_24 : Index := 224#32
  ![v167.toNat, 224]
def k0_off17 (k0_t2 : Fin k0_t2_loop.trips) : Fin 2 → Nat :=
  let c0_i32_6 : BitVec 32 := 0#32
  let c1_i32_8 : BitVec 32 := 1#32
  let arg24 : BitVec 32 := Scf.iv c0_i32_6 c1_i32_8 k0_t2
  let v171 : Index := Scalar.indexCast arg24
  let c240_25 : Index := 240#32
  ![v171.toNat, 240]
@[reducible] def k0_t3_loop : Scf.Loop 32 :=
  let c0_i32_2 : BitVec 32 := 0#32
  let c8_i32_3 : BitVec 32 := 8#32
  let v55 : BitVec 32 := Scalar.addi c0_i32_2 c8_i32_3
  let c1_i32_4 : BitVec 32 := 1#32
  ⟨c0_i32_2, v55, c1_i32_4⟩
def k0_off18 (i : grid0.Coords) (k0_t3 : Fin k0_t3_loop.trips) : Fin 2 → Nat :=
  let arg1 : BitVec 32 := BitVec.ofNat 32 (i 1).val
  let c2048_i32 : BitVec 32 := 2048#32
  let v0 : BitVec 32 := Scalar.muli arg1 c2048_i32
  let arg0 : BitVec 32 := BitVec.ofNat 32 (i 0).val
  let c1024_i32 : BitVec 32 := 1024#32
  let v1 : BitVec 32 := Scalar.muli arg0 c1024_i32
  let v2 : BitVec 32 := Scalar.addi v0 v1
  let c0_i32_2 : BitVec 32 := 0#32
  let c1_i32_4 : BitVec 32 := 1#32
  let arg7 : BitVec 32 := Scf.iv c0_i32_2 c1_i32_4 k0_t3
  let c128_i32 : BitVec 32 := 128#32
  let v107 : BitVec 32 := Scalar.muli arg7 c128_i32
  let v108 : BitVec 32 := Scalar.addi v2 v107
  let c0_i32_10_r1 : BitVec 32 := 0#32
  ![v108.toNat, 0]
@[reducible] def k0_t4_loop : Scf.Loop 32 :=
  let c0_i32_6 : BitVec 32 := 0#32
  let c128_i32_7 : BitVec 32 := 128#32
  let v109 : BitVec 32 := Scalar.addi c0_i32_6 c128_i32_7
  let c1_i32_8 : BitVec 32 := 1#32
  ⟨c0_i32_6, v109, c1_i32_8⟩
def k0_off19 (k0_t4 : Fin k0_t4_loop.trips) : Fin 2 → Nat :=
  let c0_i32_6 : BitVec 32 := 0#32
  let c1_i32_8 : BitVec 32 := 1#32
  let arg24 : BitVec 32 := Scf.iv c0_i32_6 c1_i32_8 k0_t4
  let v111 : Index := Scalar.indexCast arg24
  let c0_10 : Index := 0#32
  ![v111.toNat, 0]
def k0_off20 (k0_t4 : Fin k0_t4_loop.trips) : Fin 2 → Nat :=
  let c0_i32_6 : BitVec 32 := 0#32
  let c1_i32_8 : BitVec 32 := 1#32
  let arg24 : BitVec 32 := Scf.iv c0_i32_6 c1_i32_8 k0_t4
  let v115 : Index := Scalar.indexCast arg24
  let c16_11 : Index := 16#32
  ![v115.toNat, 16]
def k0_off21 (k0_t4 : Fin k0_t4_loop.trips) : Fin 2 → Nat :=
  let c0_i32_6 : BitVec 32 := 0#32
  let c1_i32_8 : BitVec 32 := 1#32
  let arg24 : BitVec 32 := Scf.iv c0_i32_6 c1_i32_8 k0_t4
  let v119 : Index := Scalar.indexCast arg24
  let c32_12 : Index := 32#32
  ![v119.toNat, 32]
def k0_off22 (k0_t4 : Fin k0_t4_loop.trips) : Fin 2 → Nat :=
  let c0_i32_6 : BitVec 32 := 0#32
  let c1_i32_8 : BitVec 32 := 1#32
  let arg24 : BitVec 32 := Scf.iv c0_i32_6 c1_i32_8 k0_t4
  let v123 : Index := Scalar.indexCast arg24
  let c48_13 : Index := 48#32
  ![v123.toNat, 48]
def k0_off23 (k0_t4 : Fin k0_t4_loop.trips) : Fin 2 → Nat :=
  let c0_i32_6 : BitVec 32 := 0#32
  let c1_i32_8 : BitVec 32 := 1#32
  let arg24 : BitVec 32 := Scf.iv c0_i32_6 c1_i32_8 k0_t4
  let v127 : Index := Scalar.indexCast arg24
  let c64_14 : Index := 64#32
  ![v127.toNat, 64]
def k0_off24 (k0_t4 : Fin k0_t4_loop.trips) : Fin 2 → Nat :=
  let c0_i32_6 : BitVec 32 := 0#32
  let c1_i32_8 : BitVec 32 := 1#32
  let arg24 : BitVec 32 := Scf.iv c0_i32_6 c1_i32_8 k0_t4
  let v131 : Index := Scalar.indexCast arg24
  let c80_15 : Index := 80#32
  ![v131.toNat, 80]
def k0_off25 (k0_t4 : Fin k0_t4_loop.trips) : Fin 2 → Nat :=
  let c0_i32_6 : BitVec 32 := 0#32
  let c1_i32_8 : BitVec 32 := 1#32
  let arg24 : BitVec 32 := Scf.iv c0_i32_6 c1_i32_8 k0_t4
  let v135 : Index := Scalar.indexCast arg24
  let c96_16 : Index := 96#32
  ![v135.toNat, 96]
def k0_off26 (k0_t4 : Fin k0_t4_loop.trips) : Fin 2 → Nat :=
  let c0_i32_6 : BitVec 32 := 0#32
  let c1_i32_8 : BitVec 32 := 1#32
  let arg24 : BitVec 32 := Scf.iv c0_i32_6 c1_i32_8 k0_t4
  let v139 : Index := Scalar.indexCast arg24
  let c112_17 : Index := 112#32
  ![v139.toNat, 112]
def k0_off27 (k0_t4 : Fin k0_t4_loop.trips) : Fin 2 → Nat :=
  let c0_i32_6 : BitVec 32 := 0#32
  let c1_i32_8 : BitVec 32 := 1#32
  let arg24 : BitVec 32 := Scf.iv c0_i32_6 c1_i32_8 k0_t4
  let v143 : Index := Scalar.indexCast arg24
  let c128_18 : Index := 128#32
  ![v143.toNat, 128]
def k0_off28 (k0_t4 : Fin k0_t4_loop.trips) : Fin 2 → Nat :=
  let c0_i32_6 : BitVec 32 := 0#32
  let c1_i32_8 : BitVec 32 := 1#32
  let arg24 : BitVec 32 := Scf.iv c0_i32_6 c1_i32_8 k0_t4
  let v147 : Index := Scalar.indexCast arg24
  let c144_19 : Index := 144#32
  ![v147.toNat, 144]
def k0_off29 (k0_t4 : Fin k0_t4_loop.trips) : Fin 2 → Nat :=
  let c0_i32_6 : BitVec 32 := 0#32
  let c1_i32_8 : BitVec 32 := 1#32
  let arg24 : BitVec 32 := Scf.iv c0_i32_6 c1_i32_8 k0_t4
  let v151 : Index := Scalar.indexCast arg24
  let c160_20 : Index := 160#32
  ![v151.toNat, 160]
def k0_off30 (k0_t4 : Fin k0_t4_loop.trips) : Fin 2 → Nat :=
  let c0_i32_6 : BitVec 32 := 0#32
  let c1_i32_8 : BitVec 32 := 1#32
  let arg24 : BitVec 32 := Scf.iv c0_i32_6 c1_i32_8 k0_t4
  let v155 : Index := Scalar.indexCast arg24
  let c176_21 : Index := 176#32
  ![v155.toNat, 176]
def k0_off31 (k0_t4 : Fin k0_t4_loop.trips) : Fin 2 → Nat :=
  let c0_i32_6 : BitVec 32 := 0#32
  let c1_i32_8 : BitVec 32 := 1#32
  let arg24 : BitVec 32 := Scf.iv c0_i32_6 c1_i32_8 k0_t4
  let v159 : Index := Scalar.indexCast arg24
  let c192_22 : Index := 192#32
  ![v159.toNat, 192]
def k0_off32 (k0_t4 : Fin k0_t4_loop.trips) : Fin 2 → Nat :=
  let c0_i32_6 : BitVec 32 := 0#32
  let c1_i32_8 : BitVec 32 := 1#32
  let arg24 : BitVec 32 := Scf.iv c0_i32_6 c1_i32_8 k0_t4
  let v163 : Index := Scalar.indexCast arg24
  let c208_23 : Index := 208#32
  ![v163.toNat, 208]
def k0_off33 (k0_t4 : Fin k0_t4_loop.trips) : Fin 2 → Nat :=
  let c0_i32_6 : BitVec 32 := 0#32
  let c1_i32_8 : BitVec 32 := 1#32
  let arg24 : BitVec 32 := Scf.iv c0_i32_6 c1_i32_8 k0_t4
  let v167 : Index := Scalar.indexCast arg24
  let c224_24 : Index := 224#32
  ![v167.toNat, 224]
def k0_off34 (k0_t4 : Fin k0_t4_loop.trips) : Fin 2 → Nat :=
  let c0_i32_6 : BitVec 32 := 0#32
  let c1_i32_8 : BitVec 32 := 1#32
  let arg24 : BitVec 32 := Scf.iv c0_i32_6 c1_i32_8 k0_t4
  let v171 : Index := Scalar.indexCast arg24
  let c240_25 : Index := 240#32
  ![v171.toNat, 240]
def k0_off35 (i : grid0.Coords) : Fin 2 → Nat :=
  let arg1 : BitVec 32 := BitVec.ofNat 32 (i 1).val
  let c2_i32 : BitVec 32 := 2#32
  let v105 : BitVec 32 := Scalar.muli arg1 c2_i32
  let arg0 : BitVec 32 := BitVec.ofNat 32 (i 0).val
  let v106 : BitVec 32 := Scalar.addi v105 arg0
  let c0_i32_6_r2 : BitVec 32 := 0#32
  ![v106.toNat, 0]
abbrev grid1 : Pipeline.Grid := .none

abbrev stage1_0 : Fin 1 → Memref sig .tc .vmem S16x2x512 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S16x1 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev stage1_2 : Fin 1 → Memref sig .tc .vmem S512x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))

abbrev stage1_3 : Fin 1 → Memref sig .tc .vmem S1x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))

abbrev stage1_4 : Fin 1 → Memref sig .tc .vmem S256x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))

abbrev stage1_5 : Fin 1 → Memref sig .tc .vmem S1x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))

abbrev stage1_6 : Fin 1 → Memref sig .tc .vmem S256x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))

abbrev stage1_7 : Fin 1 → Memref sig .tc .vmem S1x1 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))

abbrev stage1_8 : Fin 1 → Memref sig .tc .vmem S16x1 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S32768x256 : Shape := ⟨2, ![32768, 256]⟩
abbrev S512x256 : Shape := ⟨2, ![512, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S16 : Shape := ⟨1, ![16]⟩
abbrev S32768x512 : Shape := ⟨2, ![32768, 512]⟩
abbrev S15 : Shape := ⟨1, ![15]⟩
abbrev S_ : Shape := ⟨0, ![]⟩
abbrev S32768 : Shape := ⟨1, ![32768]⟩
abbrev S16x1 : Shape := ⟨2, ![16, 1]⟩
abbrev S32768x1 : Shape := ⟨2, ![32768, 1]⟩
abbrev S1x1 : Shape := ⟨2, ![1, 1]⟩
abbrev S16x512 : Shape := ⟨2, ![16, 512]⟩
abbrev S16x256 : Shape := ⟨2, ![16, 256]⟩
abbrev S1x256 : Shape := ⟨2, ![1, 256]⟩

abbrev nBuf : Space → Nat
  | .hbm => 97
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S512x256, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S256x1, .f32⟩
  | .hbm, ⟨7, _⟩ => ⟨S1, .f32⟩
  | .hbm, ⟨8, _⟩ => ⟨S16, .i32⟩
  | .hbm, ⟨9, _⟩ => ⟨S32768x512, .f32⟩
  | .hbm, ⟨10, _⟩ => ⟨S16, .i32⟩
  | .hbm, ⟨11, _⟩ => ⟨S1, .i32⟩
  | .hbm, ⟨12, _⟩ => ⟨S15, .i32⟩
  | .hbm, ⟨13, _⟩ => ⟨S16, .i32⟩
  | .hbm, ⟨14, _⟩ => ⟨S_, .i32⟩
  | .hbm, ⟨15, _⟩ => ⟨S1, .i32⟩
  | .hbm, ⟨16, _⟩ => ⟨S_, .i32⟩
  | .hbm, ⟨17, _⟩ => ⟨S16, .i32⟩
  | .hbm, ⟨18, _⟩ => ⟨S_, .i32⟩
  | .hbm, ⟨19, _⟩ => ⟨S_, .i32⟩
  | .hbm, ⟨20, _⟩ => ⟨S16, .i32⟩
  | .hbm, ⟨21, _⟩ => ⟨S_, .i32⟩
  | .hbm, ⟨22, _⟩ => ⟨S32768, .i32⟩
  | .hbm, ⟨23, _⟩ => ⟨S_, .i32⟩
  | .hbm, ⟨24, _⟩ => ⟨S16, .i32⟩
  | .hbm, ⟨25, _⟩ => ⟨S16, .i1⟩
  | .hbm, ⟨26, _⟩ => ⟨S_, .i32⟩
  | .hbm, ⟨27, _⟩ => ⟨S16, .i32⟩
  | .hbm, ⟨28, _⟩ => ⟨S16, .i32⟩
  | .hbm, ⟨29, _⟩ => ⟨S16, .i32⟩
  | .hbm, ⟨30, _⟩ => ⟨S16x1, .i32⟩
  | .hbm, ⟨31, _⟩ => ⟨S_, .i32⟩
  | .hbm, ⟨32, _⟩ => ⟨S16, .i32⟩
  | .hbm, ⟨33, _⟩ => ⟨S32768, .i32⟩
  | .hbm, ⟨34, _⟩ => ⟨S_, .i32⟩
  | .hbm, ⟨35, _⟩ => ⟨S_, .i32⟩
  | .hbm, ⟨36, _⟩ => ⟨S32768, .i32⟩
  | .hbm, ⟨37, _⟩ => ⟨S_, .i32⟩
  | .hbm, ⟨38, _⟩ => ⟨S32768, .i32⟩
  | .hbm, ⟨39, _⟩ => ⟨S32768, .i32⟩
  | .hbm, ⟨40, _⟩ => ⟨S_, .i32⟩
  | .hbm, ⟨41, _⟩ => ⟨S32768, .i32⟩
  | .hbm, ⟨42, _⟩ => ⟨S32768, .i1⟩
  | .hbm, ⟨43, _⟩ => ⟨S_, .i32⟩
  | .hbm, ⟨44, _⟩ => ⟨S32768, .i32⟩
  | .hbm, ⟨45, _⟩ => ⟨S32768, .i32⟩
  | .hbm, ⟨46, _⟩ => ⟨S32768, .i32⟩
  | .hbm, ⟨47, _⟩ => ⟨S32768x1, .i32⟩
  | .hbm, ⟨48, _⟩ => ⟨S1, .i32⟩
  | .hbm, ⟨49, _⟩ => ⟨S_, .i32⟩
  | .hbm, ⟨50, _⟩ => ⟨S32768x1, .i32⟩
  | .hbm, ⟨51, _⟩ => ⟨S32768x1, .i1⟩
  | .hbm, ⟨52, _⟩ => ⟨S1x1, .i32⟩
  | .hbm, ⟨53, _⟩ => ⟨S32768x1, .i32⟩
  | .hbm, ⟨54, _⟩ => ⟨S32768x1, .i1⟩
  | .hbm, ⟨55, _⟩ => ⟨S32768x1, .i1⟩
  | .hbm, ⟨56, _⟩ => ⟨S_, .i1⟩
  | .hbm, ⟨57, _⟩ => ⟨S32768, .i1⟩
  | .hbm, ⟨58, _⟩ => ⟨S32768, .i32⟩
  | .hbm, ⟨59, _⟩ => ⟨S_, .i32⟩
  | .hbm, ⟨60, _⟩ => ⟨S32768, .i32⟩
  | .hbm, ⟨61, _⟩ => ⟨S32768, .i32⟩
  | .hbm, ⟨62, _⟩ => ⟨S_, .f32⟩
  | .hbm, ⟨63, _⟩ => ⟨S16x512, .f32⟩
  | .hbm, ⟨64, _⟩ => ⟨S32768x1, .i32⟩
  | .hbm, ⟨65, _⟩ => ⟨S16x512, .f32⟩
  | .hbm, ⟨66, _⟩ => ⟨S16x1, .i32⟩
  | .hbm, ⟨67, _⟩ => ⟨S16x1, .f32⟩
  | .hbm, ⟨68, _⟩ => ⟨S16x512, .f32⟩
  | .hbm, ⟨69, _⟩ => ⟨S16x512, .f32⟩
  | .hbm, ⟨70, _⟩ => ⟨S16x256, .f32⟩
  | .hbm, ⟨71, _⟩ => ⟨S1x256, .f32⟩
  | .hbm, ⟨72, _⟩ => ⟨S16x256, .f32⟩
  | .hbm, ⟨73, _⟩ => ⟨S16x256, .f32⟩
  | .hbm, ⟨74, _⟩ => ⟨S_, .f32⟩
  | .hbm, ⟨75, _⟩ => ⟨S16x256, .f32⟩
  | .hbm, ⟨76, _⟩ => ⟨S16x256, .f32⟩
  | .hbm, ⟨77, _⟩ => ⟨S16x256, .f32⟩
  | .hbm, ⟨78, _⟩ => ⟨S1x256, .f32⟩
  | .hbm, ⟨79, _⟩ => ⟨S16x256, .f32⟩
  | .hbm, ⟨80, _⟩ => ⟨S16x256, .f32⟩
  | .hbm, ⟨81, _⟩ => ⟨S_, .f32⟩
  | .hbm, ⟨82, _⟩ => ⟨S16x256, .f32⟩
  | .hbm, ⟨83, _⟩ => ⟨S16x256, .f32⟩
  | .hbm, ⟨84, _⟩ => ⟨S16x1, .f32⟩
  | .hbm, ⟨85, _⟩ => ⟨S1x1, .f32⟩
  | .hbm, ⟨86, _⟩ => ⟨S16x1, .f32⟩
  | .hbm, ⟨87, _⟩ => ⟨S16x1, .f32⟩
  | .hbm, ⟨88, _⟩ => ⟨S16x1, .f32⟩
  | .hbm, ⟨89, _⟩ => ⟨S16x1, .f32⟩
  | .hbm, ⟨90, _⟩ => ⟨S_, .f32⟩
  | .hbm, ⟨91, _⟩ => ⟨S16x1, .f32⟩
  | .hbm, ⟨92, _⟩ => ⟨S16x1, .f32⟩
  | .hbm, ⟨93, _⟩ => ⟨S_, .f32⟩
  | .hbm, ⟨94, _⟩ => ⟨S16x1, .f32⟩
  | .hbm, ⟨95, _⟩ => ⟨S16x1, .f32⟩
  | .hbm, ⟨96, _⟩ => ⟨S16, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_call0_v0 : Ref sig .tc := ⟨.hbm, 11, rfl⟩
abbrev main_call0_v1 : Ref sig .tc := ⟨.hbm, 12, rfl⟩
abbrev main_v2 : Ref sig .tc := ⟨.hbm, 13, rfl⟩
abbrev main_c : Ref sig .tc := ⟨.hbm, 14, rfl⟩
abbrev main_v3 : Ref sig .tc := ⟨.hbm, 15, rfl⟩
abbrev main_c_0 : Ref sig .tc := ⟨.hbm, 16, rfl⟩
abbrev main_v4 : Ref sig .tc := ⟨.hbm, 17, rfl⟩
abbrev main_call1_call0_c : Ref sig .tc := ⟨.hbm, 18, rfl⟩
abbrev main_call1_call0_v0 : Ref sig .tc := ⟨.hbm, 19, rfl⟩
abbrev main_v5 : Ref sig .tc := ⟨.hbm, 20, rfl⟩
abbrev main_c_1 : Ref sig .tc := ⟨.hbm, 21, rfl⟩
abbrev main_v6 : Ref sig .tc := ⟨.hbm, 22, rfl⟩
abbrev main_c_2 : Ref sig .tc := ⟨.hbm, 23, rfl⟩
abbrev main_v7 : Ref sig .tc := ⟨.hbm, 24, rfl⟩
abbrev main_v8 : Ref sig .tc := ⟨.hbm, 25, rfl⟩
abbrev main_c_3 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_4 : Ref sig .tc := ⟨.hbm, 31, rfl⟩
abbrev main_v13 : Ref sig .tc := ⟨.hbm, 32, rfl⟩
abbrev main_v14 : Ref sig .tc := ⟨.hbm, 33, rfl⟩
abbrev main_call2_call0_c : Ref sig .tc := ⟨.hbm, 34, rfl⟩
abbrev main_call2_call0_v0 : Ref sig .tc := ⟨.hbm, 35, rfl⟩
abbrev main_v15 : Ref sig .tc := ⟨.hbm, 36, rfl⟩
abbrev main_c_5 : Ref sig .tc := ⟨.hbm, 37, rfl⟩
abbrev main_v16 : Ref sig .tc := ⟨.hbm, 38, rfl⟩
abbrev main_v17 : Ref sig .tc := ⟨.hbm, 39, rfl⟩
abbrev main_call3_c : Ref sig .tc := ⟨.hbm, 40, rfl⟩
abbrev main_call3_v0 : Ref sig .tc := ⟨.hbm, 41, rfl⟩
abbrev main_call3_v1 : Ref sig .tc := ⟨.hbm, 42, rfl⟩
abbrev main_call3_c_0 : Ref sig .tc := ⟨.hbm, 43, rfl⟩
abbrev main_call3_v2 : Ref sig .tc := ⟨.hbm, 44, rfl⟩
abbrev main_call3_v3 : Ref sig .tc := ⟨.hbm, 45, rfl⟩
abbrev main_call3_v4 : Ref sig .tc := ⟨.hbm, 46, rfl⟩
abbrev main_call3_v5 : Ref sig .tc := ⟨.hbm, 47, rfl⟩
abbrev main_call3_c_1 : Ref sig .tc := ⟨.hbm, 48, rfl⟩
abbrev main_call3_c_2 : Ref sig .tc := ⟨.hbm, 49, rfl⟩
abbrev main_call3_v6 : Ref sig .tc := ⟨.hbm, 50, rfl⟩
abbrev main_call3_v7 : Ref sig .tc := ⟨.hbm, 51, rfl⟩
abbrev main_call3_v8 : Ref sig .tc := ⟨.hbm, 52, rfl⟩
abbrev main_call3_v9 : Ref sig .tc := ⟨.hbm, 53, rfl⟩
abbrev main_call3_v10 : Ref sig .tc := ⟨.hbm, 54, rfl⟩
abbrev main_call3_v11 : Ref sig .tc := ⟨.hbm, 55, rfl⟩
abbrev main_call3_c_3 : Ref sig .tc := ⟨.hbm, 56, rfl⟩
abbrev main_call3_v12 : Ref sig .tc := ⟨.hbm, 57, rfl⟩
abbrev main_call3_v13 : Ref sig .tc := ⟨.hbm, 58, rfl⟩
abbrev main_call3_c_4 : Ref sig .tc := ⟨.hbm, 59, rfl⟩
abbrev main_call3_v14 : Ref sig .tc := ⟨.hbm, 60, rfl⟩
abbrev main_v18 : Ref sig .tc := ⟨.hbm, 61, rfl⟩
abbrev main_cst : Ref sig .tc := ⟨.hbm, 62, rfl⟩
abbrev main_v19 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_v24 : Ref sig .tc := ⟨.hbm, 68, rfl⟩
abbrev main_v25 : Ref sig .tc := ⟨.hbm, 69, rfl⟩
abbrev main_v26 : Ref sig .tc := ⟨.hbm, 70, rfl⟩
abbrev main_v27 : Ref sig .tc := ⟨.hbm, 71, rfl⟩
abbrev main_v28 : Ref sig .tc := ⟨.hbm, 72, rfl⟩
abbrev main_v29 : Ref sig .tc := ⟨.hbm, 73, rfl⟩
abbrev main_call4_cst : Ref sig .tc := ⟨.hbm, 74, rfl⟩
abbrev main_call4_v0 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_call5_cst : Ref sig .tc := ⟨.hbm, 81, rfl⟩
abbrev main_call5_v0 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_cst_6 : Ref sig .tc := ⟨.hbm, 90, rfl⟩
abbrev main_v42 : Ref sig .tc := ⟨.hbm, 91, rfl⟩
abbrev main_v43 : Ref sig .tc := ⟨.hbm, 92, rfl⟩
abbrev main_cst_7 : Ref sig .tc := ⟨.hbm, 93, rfl⟩
abbrev main_v44 : Ref sig .tc := ⟨.hbm, 94, rfl⟩
abbrev main_v45 : Ref sig .tc := ⟨.hbm, 95, rfl⟩
abbrev main_v46 : Ref sig .tc := ⟨.hbm, 96, rfl⟩

abbrev nD : Nat := 1
abbrev τ : Topo := Topo.v7x

variable {F : FTy → Type} [FloatOps F]
-- ==== Proof.TileIdeal.lean ====
/-
  The SparseCore task of the segment-sum kernel, run at a symbolic tile.
-/
module

public import proofs.«01_k».proof.Defs
public import Idealize.ShloMosaic.Lib.SparseCore.Quiescent
public import Idealize.ShloMosaic.Lib.StableHlo.Run
public import Idealize.ShloMosaic.Lib.ShareLeaves
public import Idealize.ShloMosaic.Lib.Pipeline.Kit
public import Idealize.ShloMosaic.Lib.Pipeline.Regions
public import Idealize.ShloMosaic.Lib.ValueIdxCore
public import Idealize.ShloMosaic.Lib.Tactic
public import Idealize.ShloMosaic.Lib.Pipeline.Value
public import Idealize.ShloMosaic.Lib.Pipeline.ValueKit.Tiles
public import proofs.«01_k».proof.Proof.Gen.KernelIdeal
public import proofs.«01_k».proof.Proof.Gen.KernelIdeal.Skeleton

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix1 eq_ix2)

variable {F : FTy → Type}

/-! ## The program as the launch theorem sees it -/

abbrev ΛP : Labels := Pipeline.Sig Λ₀ (Fin 1) fun p => (pcfgs (F := F) p).Adm
abbrev K : SparseCore.Cfg τ sig (ΛP (F := F)) 1 := sc (F := F)
abbrev 𝒱₀ : Variants := Variants.none

/-- The resource algebra: the handshakes' rounds, the TensorCore pipeline's rounds, the transfers' counters. -/
abbrev UH : Type := URounds (GSem nD τ sig) ℕ
abbrev UU : Type := UH × (UR sig nD τ × Counters)

local notation "𝕄" => MT nD τ sig (HIx 1) (Elt F) ℕ UU ℕ

local notation "xV" => (Memref.whole Cert.KernelIdeal.main_arg0_scv : Memref Cert.KernelIdeal.sig Kind.scVector Space.hbm Cert.KernelIdeal.S32768x256 EltTy.f32)
local notation "yV" => (Memref.whole Cert.KernelIdeal.main_arg1_scv : Memref Cert.KernelIdeal.sig Kind.scVector Space.hbm Cert.KernelIdeal.S32768x256 EltTy.f32)
local notation "oV" => (Memref.whole Cert.KernelIdeal.main_v0_scv : Memref Cert.KernelIdeal.sig Kind.scVector Space.hbm Cert.KernelIdeal.S32x512 EltTy.f32)
local notation "sB" => (Memref.whole Cert.KernelIdeal.cc0_scratch0 : Memref Cert.KernelIdeal.sig Kind.scVector Space.vmem Cert.KernelIdeal.S128x256 EltTy.f32)
local notation "sA" => (Memref.whole Cert.KernelIdeal.cc0_scratch1 : Memref Cert.KernelIdeal.sig Kind.scVector Space.vmem Cert.KernelIdeal.S512 EltTy.f32)

variable [FloatOps F]

/-! ## What a tile accumulates -/

/-- The sixteen accumulators of 16 lanes that the kernel's loops carry. -/
abbrev Acc (F : FTy → Type) : Type := FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32 × FVec F S16 .f32

/-- Lanes `16 g … 16 g + 15` of a row of 256. -/
def lanes (h : Fin 256 → F .f32) (g : Fin 16) : FVec F S16 .f32 :=
  fun l => h ⟨16 * g.val + (l 0).val, by have : (l 0).val < 16 := (l 0).isLt; have := g.isLt; omega⟩

/-- A row of 256, cut into the sixteen accumulators. -/
def pack (h : Fin 256 → F .f32) : Acc F :=
  (lanes h 0, lanes h 1, lanes h 2, lanes h 3, lanes h 4, lanes h 5, lanes h 6, lanes h 7, lanes h 8, lanes h 9, lanes h 10, lanes h 11, lanes h 12, lanes h 13, lanes h 14, lanes h 15)

/-- Row `r` of a table of 32768 rows (the last row, past the end). -/
def rowAt (T : S32768x256.Idx → F .f32) (r : ℕ) (c : Fin 256) : F .f32 := T (ix2 ⟨min r 32767, by omega⟩ c)

/-- A row added to the accumulators. -/
def addRow (h x : Fin 256 → F .f32) (c : Fin 256) : F .f32 := FloatOps.addf (h c) (x c)

/-- The sums down each column of the first `n` rows from row `b` on, from zero, a row at a time. -/
def colAcc (T : S32768x256.Idx → F .f32) (b : ℕ) : ℕ → Fin 256 → F .f32
  | 0 => fun _ => FloatOps.ofBits .f32 0x00000000#32
  | n + 1 => addRow (colAcc T b n) (rowAt T (b + n))

/-- Row `k` of the chunk buffer. -/
def chunkRow (f : S128x256.Idx → F .f32) (k : ℕ) (c : Fin 256) : F .f32 := f (ix2 ⟨min k 127, by omega⟩ c)

theorem zero_pack : (k0_pay26 (F := F), k0_pay26 (F := F), k0_pay26 (F := F), k0_pay26 (F := F), k0_pay26 (F := F), k0_pay26 (F := F), k0_pay26 (F := F), k0_pay26 (F := F), k0_pay26 (F := F), k0_pay26 (F := F), k0_pay26 (F := F), k0_pay26 (F := F), k0_pay26 (F := F), k0_pay26 (F := F), k0_pay26 (F := F), k0_pay26 (F := F)) = pack (colAcc (F := F) (fun _ => FloatOps.ofBits .f32 0x00000000#32) 0 0) := rfl

/-- A load of 16 lanes off a row of the chunk buffer, added to the group's accumulator. -/
theorem add_lanes (h : Fin 256 → F .f32) (f : S128x256.Idx → F .f32) (k : ℕ) (hk : k < 128) (g : Fin 16) (off : Fin S128x256.rank → ℕ)
    (hb : ∀ a, off a + S1x16.size a ≤ S128x256.size a) (ho : off = ![k, 16 * g.val]) :
    addf (lanes h g) (shapeCast S16 (View.readAt (Elt F) (sB).view (Rect.unit (s := S128x256) off S1x16.size hb).toLoadRect f) shapeCasts_S1x16_S16)
      = lanes (addRow h (chunkRow f k)) g := by
  subst ho
  funext l
  show FloatOps.addf _ _ = FloatOps.addf _ _
  congr 1
  have e := shapeCast_dropUnit_apply ![16] (View.readAt (Elt F) (sB).view (Rect.unit (s := S128x256) ![k, 16 * g.val] S1x16.size hb).toLoadRect f) shapeCasts_S1x16_S16 l
  refine Eq.trans e ?_
  rw [View.readAt_apply]
  show f _ = f _
  congr 1
  funext a
  match a with
  | ⟨0, _⟩ => apply Fin.ext; show k + 1 * 0 = min k 127; omega
  | ⟨1, _⟩ => apply Fin.ext; show 16 * g.val + 1 * (l 0).val = 16 * g.val + (l 0).val; omega

/-- The chunk buffer, once 128 rows of a table have landed in it, holds those rows. -/
theorem landed (X : S32768x256.Idx → F .f32) (f : S128x256.Idx → F .f32) (off : Fin S32768x256.rank → ℕ) (hb : ∀ a, off a + S128x256.size a ≤ S32768x256.size a)
    (b n j : ℕ) (hj : j < 128) (hn : b + n + 128 ≤ 32768) (ho : off = ![b + n, 0]) :
    chunkRow (View.write (Elt F) (sB).view f
      (View.read (Elt F) ((xV).slice (Rect.unit (s := S32768x256) off S128x256.size hb) (fun _ => rfl)).view X) Finset.univ) j = rowAt X (b + (n + j)) := by
  subst ho
  rw [View.write_whole_univ]
  funext c
  show X _ = X _
  congr 1
  funext a
  match a with
  | ⟨0, _⟩ => apply Fin.ext; show b + n + 1 * min j 127 = min (b + (n + j)) 32767; omega
  | ⟨1, _⟩ => apply Fin.ext; show 0 + 1 * c.val = c.val; omega

/-- The chunk buffer, once 128 rows of the second table have landed in it, holds those rows. -/
theorem landed_y (X : S32768x256.Idx → F .f32) (f : S128x256.Idx → F .f32) (off : Fin S32768x256.rank → ℕ) (hb : ∀ a, off a + S128x256.size a ≤ S32768x256.size a)
    (b n j : ℕ) (hj : j < 128) (hn : b + n + 128 ≤ 32768) (ho : off = ![b + n, 0]) :
    chunkRow (View.write (Elt F) (sB).view f
      (View.read (Elt F) ((yV).slice (Rect.unit (s := S32768x256) off S128x256.size hb) (fun _ => rfl)).view X) Finset.univ) j = rowAt X (b + (n + j)) := by
  subst ho
  rw [View.write_whole_univ]
  funext c
  show X _ = X _
  congr 1
  funext a
  match a with
  | ⟨0, _⟩ => apply Fin.ext; show b + n + 1 * min j 127 = min (b + (n + j)) 32767; omega
  | ⟨1, _⟩ => apply Fin.ext; show 0 + 1 * c.val = c.val; omega

/-- A row more. -/
theorem colAcc_row (X : S32768x256.Idx → F .f32) (f : S128x256.Idx → F .f32) (b n j : ℕ) (hf : chunkRow f j = rowAt X (b + (n + j))) :
    addRow (colAcc X b (n + j)) (chunkRow f j) = colAcc X b (n + (j + 1)) := by
  rw [hf]; rfl

section Tile

variable (d : Dev nD) (L : grid0.Coords)

abbrev cV (L : grid0.Coords) : Fin τ.nSC := (L 0).castLE hcore0
abbrev jV (L : grid0.Coords) : Fin τ.nSub := (L 1).castLE hsub0

theorem t2_trip (f : S128x256.Idx → F .f32) (k : Fin k0_t2_loop.trips) (h : Fin 256 → F .f32) :
    ((sB).view.loc (V d (cV L) (jV L)) ↦{fullShare} f : sProp 𝕄)
      ⊢ wp frame (wpE (defs₀ (F := F)) 𝒱₀ (V d (cV L) (jV L)) none) Set.univ
          (k0_t2_body L xV (Memref.isWhole_whole _) yV (Memref.isWhole_whole _) oV (Memref.isWhole_whole _) sB (Memref.isWhole_whole _) sA (Memref.isWhole_whole _) cc0_scoped0 cc0_scoped1 cc0_scoped2 k (pack h))
          fun r => iprop(⌜r = pack (addRow h (chunkRow f k.val))⌝ ∗ (sB).view.loc (V d (cV L) (jV L)) ↦{fullShare} f) := by
  have hk : k.val < 128 := k.isLt
  unfold k0_t2_body pack
  iintro Hs
  sl_exec
  sl_step
  isplitr
  · ipureintro
    simp only [Prod.mk.injEq]
    refine ⟨add_lanes h f k.val hk 0 _ _ (k0_off2_eq k), add_lanes h f k.val hk 1 _ _ (k0_off3_eq k), add_lanes h f k.val hk 2 _ _ (k0_off4_eq k), add_lanes h f k.val hk 3 _ _ (k0_off5_eq k), add_lanes h f k.val hk 4 _ _ (k0_off6_eq k), add_lanes h f k.val hk 5 _ _ (k0_off7_eq k), add_lanes h f k.val hk 6 _ _ (k0_off8_eq k), add_lanes h f k.val hk 7 _ _ (k0_off9_eq k), add_lanes h f k.val hk 8 _ _ (k0_off10_eq k), add_lanes h f k.val hk 9 _ _ (k0_off11_eq k), add_lanes h f k.val hk 10 _ _ (k0_off12_eq k), add_lanes h f k.val hk 11 _ _ (k0_off13_eq k), add_lanes h f k.val hk 12 _ _ (k0_off14_eq k), add_lanes h f k.val hk 13 _ _ (k0_off15_eq k), add_lanes h f k.val hk 14 _ _ (k0_off16_eq k), add_lanes h f k.val hk 15 _ _ (k0_off17_eq k)⟩
  · iexact Hs

theorem t4_trip (v2 : BitVec 32) (w9 w10 w11 w12 w13 w14 w15 : FVec F S16 .f32) (f : S128x256.Idx → F .f32) (k : Fin k0_t4_loop.trips) (h : Fin 256 → F .f32) :
    ((sB).view.loc (V d (cV L) (jV L)) ↦{fullShare} f : sProp 𝕄)
      ⊢ wp frame (wpE (defs₀ (F := F)) 𝒱₀ (V d (cV L) (jV L)) none) Set.univ
          (k0_t4_body L xV (Memref.isWhole_whole _) yV (Memref.isWhole_whole _) oV (Memref.isWhole_whole _) sB (Memref.isWhole_whole _) sA (Memref.isWhole_whole _) cc0_scoped0 cc0_scoped1 cc0_scoped2 v2 w9 w10 w11 w12 w13 w14 w15 k (pack h))
          fun r => iprop(⌜r = pack (addRow h (chunkRow f k.val))⌝ ∗ (sB).view.loc (V d (cV L) (jV L)) ↦{fullShare} f) := by
  have hk : k.val < 128 := k.isLt
  unfold k0_t4_body pack
  iintro Hs
  sl_exec
  sl_step
  isplitr
  · ipureintro
    simp only [Prod.mk.injEq]
    refine ⟨add_lanes h f k.val hk 0 _ _ (k0_off19_eq k), add_lanes h f k.val hk 1 _ _ (k0_off20_eq k), add_lanes h f k.val hk 2 _ _ (k0_off21_eq k), add_lanes h f k.val hk 3 _ _ (k0_off22_eq k), add_lanes h f k.val hk 4 _ _ (k0_off23_eq k), add_lanes h f k.val hk 5 _ _ (k0_off24_eq k), add_lanes h f k.val hk 6 _ _ (k0_off25_eq k), add_lanes h f k.val hk 7 _ _ (k0_off26_eq k), add_lanes h f k.val hk 8 _ _ (k0_off27_eq k), add_lanes h f k.val hk 9 _ _ (k0_off28_eq k), add_lanes h f k.val hk 10 _ _ (k0_off29_eq k), add_lanes h f k.val hk 11 _ _ (k0_off30_eq k), add_lanes h f k.val hk 12 _ _ (k0_off31_eq k), add_lanes h f k.val hk 13 _ _ (k0_off32_eq k), add_lanes h f k.val hk 14 _ _ (k0_off33_eq k), add_lanes h f k.val hk 15 _ _ (k0_off34_eq k)⟩
  · iexact Hs

/-- The first row of the block of 1024 rows that a tile reads. -/
abbrev base (L : grid0.Coords) : ℕ := 2048 * (L 1).val + 1024 * (L 0).val

set_option maxHeartbeats 1000000 in
theorem t1_trip (q : PosShare TreeShare) (X : S32768x256.Idx → F .f32) (f : S128x256.Idx → F .f32) (k : Fin k0_t1_loop.trips)
    (O : CellTallies nD τ sig (HIx 1)) (W : Waits sig (HIx 1)) :
    iprop(Transfers.MayWaits (V d (cV L) (jV L)) (default : HIx 1) O ∗ ((xV).view.loc (V d (cV L) (jV L)) ↦{q} X) ∗ ((sB).view.loc (V d (cV L) (jV L)) ↦{fullShare} f)
        ∗ semVal (V d (cV L) (jV L), SemLoc.dma cc0_scoped0.sem) 0 ∗ owes (V d (cV L) (jV L)) O W)
      ⊢ (wp frame (wpE (defs₀ (F := F)) 𝒱₀ (V d (cV L) (jV L)) none) Set.univ
          (k0_t1_body L xV (Memref.isWhole_whole _) yV (Memref.isWhole_whole _) oV (Memref.isWhole_whole _) sB (Memref.isWhole_whole _) sA (Memref.isWhole_whole _) cc0_scoped0 cc0_scoped1 cc0_scoped2 k (pack (colAcc X (base L) (128 * k.val))))
          fun r => iprop(⌜r = pack (colAcc X (base L) (128 * (k.val + 1)))⌝
            ∗ ((xV).view.loc (V d (cV L) (jV L)) ↦{q} X) ∗ (∃ f', (sB).view.loc (V d (cV L) (jV L)) ↦{fullShare} f')
            ∗ semVal (V d (cV L) (jV L), SemLoc.dma cc0_scoped0.sem) 0
            ∗ ∃ W', ⌜∀ p ∈ W', p ∈ W ∨ p.2 = none⌝ ∗ owes (V d (cV L) (jV L)) O W') : sProp 𝕄) := by
  have hk : k.val < 8 := k.isLt
  have h0 : (L 0).val < 2 := (L 0).isLt
  have h1 : (L 1).val < 16 := (L 1).isLt
  generalize hQ : pack (colAcc X (base L) (128 * (k.val + 1))) = r'
  unfold k0_t1_body pack
  iintro ⟨#Hmw, Hx, Hs, Hsem, HO⟩
  sl_exec (disch := exact View.amount_pos _ _ (show 0 < S128x256.numel by decide))
  have hf : ∀ j < 128, chunkRow (View.write (Elt F) (sB).view f (t1_trip.sl.dma0 L X k) Finset.univ) j
      = rowAt X (base L + (128 * k.val + j)) := fun j hj =>
    landed X f _ _ (base L) (128 * k.val) j hj (by unfold base; omega) (k0_off1_eq L k)
  generalize View.write (Elt F) (sB).view f (t1_trip.sl.dma0 L X k) Finset.univ = f' at hf ⊢
  sl_for (fun (j : ℕ) (acc : Acc F) => iprop(⌜acc = pack (colAcc X (base L) (128 * k.val + j))⌝ ∗ ((sB).view.loc (V d (cV L) (jV L)) ↦{fullShare} f' : sProp 𝕄))) $$ [Hs]
  case region =>
    intro j acc
    iintro ⟨%hacc, Hs⟩
    subst hacc
    iapply (wp_wand_r Idealize.ShloMosaic.frame _ Set.univ)
    isplitl [Hs]
    · iapply (t2_trip d L  f' j _); iexact Hs
    iintro %r ⟨%hr, Hs⟩
    isplitr
    · ipureintro; rw [hr, colAcc_row X f' _ _ _ (hf j.val j.isLt)]
    · iexact Hs
  · isplitr
    · ipureintro; rfl
    · iexact Hs
  iintro %acc ⟨%hacc, Hs⟩
  have ht : Scf.trips k0_t2_loop.lb k0_t2_loop.ub k0_t2_loop.st = 128 := by decide
  rw [ht, show 128 * k.val + 128 = 128 * (k.val + 1) by omega, hQ] at hacc
  obtain ⟨a0, a1, a2, a3, a4, a5, a6, a7, a8, a9, a10, a11, a12, a13, a14, a15⟩ := acc
  iapply (le_wp_ret _ _ _ (a0, a1, a2, a3, a4, a5, a6, a7, a8, a9, a10, a11, a12, a13, a14, a15) _)
  isplitr
  · ipureintro; exact hacc
  isplitl [Hx]; · iexact Hx
  isplitl [Hs]; · iexists f'; iexact Hs
  isplitl [Hsem]; · iexact Hsem
  iexists _; isplitr
  swap; · iexact HO
  ipureintro; intro p hp
  rcases Finset.mem_insert.mp hp with hp | hp
  · exact .inr (hp ▸ rfl)
  · exact .inl hp

set_option maxHeartbeats 1000000 in
theorem t3_trip (v2 : BitVec 32) (w9 w10 w11 w12 w13 w14 w15 : FVec F S16 .f32) (q : PosShare TreeShare) (X : S32768x256.Idx → F .f32) (f : S128x256.Idx → F .f32) (k : Fin k0_t3_loop.trips)
    (O : CellTallies nD τ sig (HIx 1)) (W : Waits sig (HIx 1)) :
    iprop(Transfers.MayWaits (V d (cV L) (jV L)) (default : HIx 1) O ∗ ((yV).view.loc (V d (cV L) (jV L)) ↦{q} X) ∗ ((sB).view.loc (V d (cV L) (jV L)) ↦{fullShare} f)
        ∗ semVal (V d (cV L) (jV L), SemLoc.dma cc0_scoped1.sem) 0 ∗ owes (V d (cV L) (jV L)) O W)
      ⊢ (wp frame (wpE (defs₀ (F := F)) 𝒱₀ (V d (cV L) (jV L)) none) Set.univ
          (k0_t3_body L xV (Memref.isWhole_whole _) yV (Memref.isWhole_whole _) oV (Memref.isWhole_whole _) sB (Memref.isWhole_whole _) sA (Memref.isWhole_whole _) cc0_scoped0 cc0_scoped1 cc0_scoped2 v2 w9 w10 w11 w12 w13 w14 w15 k (pack (colAcc X (base L) (128 * k.val))))
          fun r => iprop(⌜r = pack (colAcc X (base L) (128 * (k.val + 1)))⌝
            ∗ ((yV).view.loc (V d (cV L) (jV L)) ↦{q} X) ∗ (∃ f', (sB).view.loc (V d (cV L) (jV L)) ↦{fullShare} f')
            ∗ semVal (V d (cV L) (jV L), SemLoc.dma cc0_scoped1.sem) 0
            ∗ ∃ W', ⌜∀ p ∈ W', p ∈ W ∨ p.2 = none⌝ ∗ owes (V d (cV L) (jV L)) O W') : sProp 𝕄) := by
  have hk : k.val < 8 := k.isLt
  have h0 : (L 0).val < 2 := (L 0).isLt
  have h1 : (L 1).val < 16 := (L 1).isLt
  generalize hQ : pack (colAcc X (base L) (128 * (k.val + 1))) = r'
  unfold k0_t3_body pack
  iintro ⟨#Hmw, Hx, Hs, Hsem, HO⟩
  sl_exec (disch := exact View.amount_pos _ _ (show 0 < S128x256.numel by decide))
  have hf : ∀ j < 128, chunkRow (View.write (Elt F) (sB).view f (t3_trip.sl.dma0 L X k) Finset.univ) j
      = rowAt X (base L + (128 * k.val + j)) := fun j hj =>
    landed_y X f _ _ (base L) (128 * k.val) j hj (by unfold base; omega) (k0_off18_eq L k)
  generalize View.write (Elt F) (sB).view f (t3_trip.sl.dma0 L X k) Finset.univ = f' at hf ⊢
  sl_for (fun (j : ℕ) (acc : Acc F) => iprop(⌜acc = pack (colAcc X (base L) (128 * k.val + j))⌝ ∗ ((sB).view.loc (V d (cV L) (jV L)) ↦{fullShare} f' : sProp 𝕄))) $$ [Hs]
  case region =>
    intro j acc
    iintro ⟨%hacc, Hs⟩
    subst hacc
    iapply (wp_wand_r Idealize.ShloMosaic.frame _ Set.univ)
    isplitl [Hs]
    · iapply (t4_trip d L  v2 w9 w10 w11 w12 w13 w14 w15 f' j _); iexact Hs
    iintro %r ⟨%hr, Hs⟩
    isplitr
    · ipureintro; rw [hr, colAcc_row X f' _ _ _ (hf j.val j.isLt)]
    · iexact Hs
  · isplitr
    · ipureintro; rfl
    · iexact Hs
  iintro %acc ⟨%hacc, Hs⟩
  have ht : Scf.trips k0_t4_loop.lb k0_t4_loop.ub k0_t4_loop.st = 128 := by decide
  rw [ht, show 128 * k.val + 128 = 128 * (k.val + 1) by omega, hQ] at hacc
  obtain ⟨a0, a1, a2, a3, a4, a5, a6, a7, a8, a9, a10, a11, a12, a13, a14, a15⟩ := acc
  iapply (le_wp_ret _ _ _ (a0, a1, a2, a3, a4, a5, a6, a7, a8, a9, a10, a11, a12, a13, a14, a15) _)
  isplitr
  · ipureintro; exact hacc
  isplitl [Hx]; · iexact Hx
  isplitl [Hs]; · iexists f'; iexact Hs
  isplitl [Hsem]; · iexact Hsem
  iexists _; isplitr
  swap; · iexact HO
  ipureintro; intro p hp
  rcases Finset.mem_insert.mp hp with hp | hp
  · exact .inr (hp ▸ rfl)
  · exact .inl hp

end Tile

end Cert.Proof.KernelIdeal
-- ==== Proof.BodyIdeal.lean ====
/-
  A whole tile of the segment-sum kernel: both tables' blocks summed, and the sums written to the tile's row.
-/
module

public import proofs.«01_k».proof.Proof.TileIdeal
public import Idealize.ShloMosaic.Lib.Writes

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix1 eq_ix2)

variable {F : FTy → Type}

local notation "𝕄" => MT nD τ sig (HIx 1) (Elt F) ℕ UU ℕ

local notation "xV" => (Memref.whole Cert.KernelIdeal.main_arg0_scv : Memref Cert.KernelIdeal.sig Kind.scVector Space.hbm Cert.KernelIdeal.S32768x256 EltTy.f32)
local notation "yV" => (Memref.whole Cert.KernelIdeal.main_arg1_scv : Memref Cert.KernelIdeal.sig Kind.scVector Space.hbm Cert.KernelIdeal.S32768x256 EltTy.f32)
local notation "oV" => (Memref.whole Cert.KernelIdeal.main_v0_scv : Memref Cert.KernelIdeal.sig Kind.scVector Space.hbm Cert.KernelIdeal.S32x512 EltTy.f32)
local notation "sB" => (Memref.whole Cert.KernelIdeal.cc0_scratch0 : Memref Cert.KernelIdeal.sig Kind.scVector Space.vmem Cert.KernelIdeal.S128x256 EltTy.f32)
local notation "sA" => (Memref.whole Cert.KernelIdeal.cc0_scratch1 : Memref Cert.KernelIdeal.sig Kind.scVector Space.vmem Cert.KernelIdeal.S512 EltTy.f32)

variable [FloatOps F]

/-- A tile's 512 sums: the first table's 256 columns, then the second's. -/
def joined (A B : Fin 256 → F .f32) : S512.Idx → F .f32 :=
  fun y => if h : (y 0).val < 256 then A ⟨(y 0).val, h⟩ else B ⟨(y 0).val - 256, by have : (y 0).val < 512 := (y 0).isLt; omega⟩

/-- The partial sums: row `r` holds the sums down the columns of rows `1024 r … 1024 r + 1023` of the two tables. -/
def partials (X Y : S32768x256.Idx → F .f32) : S32x512.Idx → F .f32 :=
  fun i => joined (colAcc X (1024 * (i 0).val) 1024) (colAcc Y (1024 * (i 0).val) 1024) (ix1 (i 1))

/-- A store of a group of the first table's sums. -/
theorem store_lo (A B : Fin 256 → F .f32) (g : Fin 16) (off : Fin S512.rank → ℕ) (inb : ∀ a, off a + S16.size a ≤ S512.size a) (hs : S16.ShapeCasts S16)
    (ho : off 0 = 16 * g.val) (x : S16.Idx) :
    shapeCast S16 (lanes A g) hs x = joined A B ((Rect.unit (s := S512) off S16.size inb).emb x) := by
  rw [shapeCast_self]
  have hg := g.isLt
  have hx : (x 0).val < 16 := (x 0).isLt
  have e : ((Rect.unit (s := S512) off S16.size inb).emb x 0).val = 16 * g.val + (x 0).val := by
    show off 0 + 1 * (x 0).val = _; omega
  unfold joined lanes
  rw [dif_pos (by omega)]
  congr 1
  exact Fin.ext e.symm

/-- A store of a group of the second table's sums. -/
theorem store_hi (A B : Fin 256 → F .f32) (g : Fin 16) (off : Fin S512.rank → ℕ) (inb : ∀ a, off a + S16.size a ≤ S512.size a) (hs : S16.ShapeCasts S16)
    (ho : off 0 = 256 + 16 * g.val) (x : S16.Idx) :
    shapeCast S16 (lanes B g) hs x = joined A B ((Rect.unit (s := S512) off S16.size inb).emb x) := by
  rw [shapeCast_self]
  have hg := g.isLt
  have hx : (x 0).val < 16 := (x 0).isLt
  have e : ((Rect.unit (s := S512) off S16.size inb).emb x 0).val = 256 + 16 * g.val + (x 0).val := by
    show off 0 + 1 * (x 0).val = _; omega
  unfold joined lanes
  rw [dif_neg (by omega)]
  congr 1
  exact Fin.ext (by show 16 * g.val + (x 0).val = _ - 256; omega)

/-- Which elements a group's store covers. -/
theorem mem_store (off : Fin S512.rank → ℕ) (inb : ∀ a, off a + (![16] : Fin S512.rank → ℕ) a ≤ S512.size a) (y : S512.Idx) :
    y ∈ (Rect.unit (s := S512) off ![16] inb).set ↔ off 0 ≤ (y 0).val ∧ (y 0).val < off 0 + 16 := by
  rw [Rect.mem_set_unit]
  exact ⟨fun h => h 0, fun h a => match a with | ⟨0, _⟩ => h⟩

/-- The scratch row after its 32 stores reads the tile's 512 sums. -/
theorem stores_value (A B : Fin 256 → F .f32) (fa : S512.Idx → F .f32) (y : S512.Idx) :
    View.read (Elt F) (sA).view ((sA).view.writes (Elt F) fa [
    ⟨Rect.unit (s := S512) ![496] S16.size inb_S512_S16_496, k0_pay1 (lanes B 15)⟩,
    ⟨Rect.unit (s := S512) ![480] S16.size inb_S512_S16_480, k0_pay68 (lanes B 14)⟩,
    ⟨Rect.unit (s := S512) ![464] S16.size inb_S512_S16_464, k0_pay67 (lanes B 13)⟩,
    ⟨Rect.unit (s := S512) ![448] S16.size inb_S512_S16_448, k0_pay66 (lanes B 12)⟩,
    ⟨Rect.unit (s := S512) ![432] S16.size inb_S512_S16_432, k0_pay65 (lanes B 11)⟩,
    ⟨Rect.unit (s := S512) ![416] S16.size inb_S512_S16_416, k0_pay64 (lanes B 10)⟩,
    ⟨Rect.unit (s := S512) ![400] S16.size inb_S512_S16_400, k0_pay63 (lanes B 9)⟩,
    ⟨Rect.unit (s := S512) ![384] S16.size inb_S512_S16_384, k0_pay62 (lanes B 8)⟩,
    ⟨Rect.unit (s := S512) ![368] S16.size inb_S512_S16_368, k0_pay61 (lanes B 7)⟩,
    ⟨Rect.unit (s := S512) ![352] S16.size inb_S512_S16_352, k0_pay60 (lanes B 6)⟩,
    ⟨Rect.unit (s := S512) ![336] S16.size inb_S512_S16_336, k0_pay59 (lanes B 5)⟩,
    ⟨Rect.unit (s := S512) ![320] S16.size inb_S512_S16_320, k0_pay58 (lanes B 4)⟩,
    ⟨Rect.unit (s := S512) ![304] S16.size inb_S512_S16_304, k0_pay57 (lanes B 3)⟩,
    ⟨Rect.unit (s := S512) ![288] S16.size inb_S512_S16_288, k0_pay56 (lanes B 2)⟩,
    ⟨Rect.unit (s := S512) ![272] S16.size inb_S512_S16_272, k0_pay55 (lanes B 1)⟩,
    ⟨Rect.unit (s := S512) ![256] S16.size inb_S512_S16_256, k0_pay54 (lanes B 0)⟩,
    ⟨Rect.unit (s := S512) ![240] S16.size inb_S512_S16_240, k0_pay47 (lanes A 15)⟩,
    ⟨Rect.unit (s := S512) ![224] S16.size inb_S512_S16_224, k0_pay46 (lanes A 14)⟩,
    ⟨Rect.unit (s := S512) ![208] S16.size inb_S512_S16_208, k0_pay45 (lanes A 13)⟩,
    ⟨Rect.unit (s := S512) ![192] S16.size inb_S512_S16_192, k0_pay44 (lanes A 12)⟩,
    ⟨Rect.unit (s := S512) ![176] S16.size inb_S512_S16_176, k0_pay43 (lanes A 11)⟩,
    ⟨Rect.unit (s := S512) ![160] S16.size inb_S512_S16_160, k0_pay42 (lanes A 10)⟩,
    ⟨Rect.unit (s := S512) ![144] S16.size inb_S512_S16_144, k0_pay41 (lanes A 9)⟩,
    ⟨Rect.unit (s := S512) ![128] S16.size inb_S512_S16_128, k0_pay40 (lanes A 8)⟩,
    ⟨Rect.unit (s := S512) ![112] S16.size inb_S512_S16_112, k0_pay39 (lanes A 7)⟩,
    ⟨Rect.unit (s := S512) ![96] S16.size inb_S512_S16_96, k0_pay38 (lanes A 6)⟩,
    ⟨Rect.unit (s := S512) ![80] S16.size inb_S512_S16_80, k0_pay37 (lanes A 5)⟩,
    ⟨Rect.unit (s := S512) ![64] S16.size inb_S512_S16_64, k0_pay36 (lanes A 4)⟩,
    ⟨Rect.unit (s := S512) ![48] S16.size inb_S512_S16_48, k0_pay35 (lanes A 3)⟩,
    ⟨Rect.unit (s := S512) ![32] S16.size inb_S512_S16_32, k0_pay34 (lanes A 2)⟩,
    ⟨Rect.unit (s := S512) ![16] S16.size inb_S512_S16_16, k0_pay33 (lanes A 1)⟩,
    ⟨Rect.unit (s := S512) ![0] S16.size inb_S512_S16_0, k0_pay32 (lanes A 0)⟩]) y = joined A B y := by
  refine View.read_writes_apply_of_pieces (Val := Elt F) (s := S512) (e := .f32) (sA).view fa (joined A B) _ ?_ y ?_
  · simp only [List.forall_mem_cons]
    exact ⟨fun x => store_hi A B 15 _ _ _ rfl x, fun x => store_hi A B 14 _ _ _ rfl x, fun x => store_hi A B 13 _ _ _ rfl x, fun x => store_hi A B 12 _ _ _ rfl x, fun x => store_hi A B 11 _ _ _ rfl x, fun x => store_hi A B 10 _ _ _ rfl x, fun x => store_hi A B 9 _ _ _ rfl x, fun x => store_hi A B 8 _ _ _ rfl x, fun x => store_hi A B 7 _ _ _ rfl x, fun x => store_hi A B 6 _ _ _ rfl x, fun x => store_hi A B 5 _ _ _ rfl x, fun x => store_hi A B 4 _ _ _ rfl x, fun x => store_hi A B 3 _ _ _ rfl x, fun x => store_hi A B 2 _ _ _ rfl x, fun x => store_hi A B 1 _ _ _ rfl x, fun x => store_hi A B 0 _ _ _ rfl x, fun x => store_lo A B 15 _ _ _ rfl x, fun x => store_lo A B 14 _ _ _ rfl x, fun x => store_lo A B 13 _ _ _ rfl x, fun x => store_lo A B 12 _ _ _ rfl x, fun x => store_lo A B 11 _ _ _ rfl x, fun x => store_lo A B 10 _ _ _ rfl x, fun x => store_lo A B 9 _ _ _ rfl x, fun x => store_lo A B 8 _ _ _ rfl x, fun x => store_lo A B 7 _ _ _ rfl x, fun x => store_lo A B 6 _ _ _ rfl x, fun x => store_lo A B 5 _ _ _ rfl x, fun x => store_lo A B 4 _ _ _ rfl x, fun x => store_lo A B 3 _ _ _ rfl x, fun x => store_lo A B 2 _ _ _ rfl x, fun x => store_lo A B 1 _ _ _ rfl x, fun x => store_lo A B 0 _ _ _ rfl x, fun p hp => absurd hp List.not_mem_nil⟩
  · have hy : (y 0).val < 512 := (y 0).isLt
    simp only [List.exists_mem_cons_iff, mem_store, Matrix.cons_val_zero]
    omega

section Tile

variable (d : Dev nD) (L : grid0.Coords)

/-- The row of the partial sums a tile writes, as the kernel slices it. -/
abbrev oRowK (L : grid0.Coords) : Memref sig .scVector .hbm S512 .f32 :=
  ((oV).slice (Rect.unit (s := S32x512) (k0_off35 L) S1x512.size (k0_off35_inb L)) (fun _ => rfl)).squeeze S512 squeezes_S1x512_S512

/-- Where the tile's row lies: element `y` of it is element `(2 s + c, y)` of the partial sums. -/
theorem oRowK_emb (y : S512.Idx) : (oRowK L).view.emb y = ix2 (n0 := 32) (n1 := 512) ⟨2 * (L 1).val + (L 0).val, by
    have h0 : (L 0).val < 2 := (L 0).isLt
    have h1 : (L 1).val < 16 := (L 1).isLt
    omega⟩ (y 0) := by
  have e : Shape.reshapeEquiv (s := S1x512) (s' := S512) squeezes_S1x512_S512.numel_eq y = Fin.cons ⟨0, Nat.one_pos⟩ y := Shape.reshapeEquiv_cons_one _ y
  show (Rect.unit (s := S32x512) (k0_off35 L) S1x512.size (k0_off35_inb L)).emb (Shape.reshapeEquiv (s := S1x512) (s' := S512) squeezes_S1x512_S512.numel_eq y) = _
  rw [e]
  funext a
  apply Fin.ext
  have h35 := congrFun (k0_off35_eq L) a
  match a with
  | ⟨0, _⟩ => exact h35
  | ⟨1, _⟩ =>
    refine (congrArg (· + 1 * (y 0).val) h35).trans ?_
    show 0 + 1 * (y 0).val = (y 0).val
    omega

/-- The tile's row, once its sums have landed there, is that row of the partial sums. -/
theorem row_value (X Y : S32768x256.Idx → F .f32) (fo : S32x512.Idx → F .f32) (w : S512.Idx → F .f32)
    (hw : ∀ y, w y = joined (colAcc X (base L) 1024) (colAcc Y (base L) 1024) y) :
    ∀ i ∈ (oRowK L).view.set, (oRowK L).view.writes (Elt F) fo [⟨Rect.whole S512, w⟩] i = partials X Y i := by
  intro i hi
  obtain ⟨y, -, rfl⟩ := Finset.mem_map.mp hi
  have h := View.read_writes_cons_emb (Val := Elt F) (oRowK L).view fo (Rect.whole S512) (show (Rect.whole S512).shape.Idx → Elt F .f32 from w) [] y
  rw [View.read_apply] at h
  have hy : (Rect.whole S512).emb y = y := by funext a; apply Fin.ext; show 0 + 1 * (y a).val = _; omega
  rw [hy] at h
  refine (Eq.trans ?_ (h.trans (hw y))).trans ?_
  · exact (cast_eq _ _).symm
  · rw [oRowK_emb]
    unfold partials
    rw [show base L = 1024 * (2 * (L 1).val + (L 0).val) by unfold base; omega]
    show _ = joined _ _ (ix1 (y 0))
    congr 1
    funext a
    match a with
    | ⟨0, _⟩ => rfl

/-- The invariant of a loop over chunks: the accumulators hold the sums down the first `128 j` rows of the block. -/
abbrev inv1 (q : PosShare TreeShare) (X : S32768x256.Idx → F .f32) (O : CellTallies nD τ sig (HIx 1)) (W : Waits sig (HIx 1)) (j : ℕ) (acc : Acc F) : sProp 𝕄 :=
  iprop(Transfers.MayWaits (V d (cV L) (jV L)) (default : HIx 1) O ∗ ⌜acc = pack (colAcc X (base L) (128 * j))⌝
            ∗ ((xV).view.loc (V d (cV L) (jV L)) ↦{q} X) ∗ (∃ f', (sB).view.loc (V d (cV L) (jV L)) ↦{fullShare} f')
            ∗ semVal (V d (cV L) (jV L), SemLoc.dma cc0_scoped0.sem) 0
            ∗ ∃ W', ⌜∀ p ∈ W', p ∈ W ∨ p.2 = none⌝ ∗ owes (V d (cV L) (jV L)) O W')

/-- The same over the second table. -/
abbrev inv3 (q : PosShare TreeShare) (X : S32768x256.Idx → F .f32) (O : CellTallies nD τ sig (HIx 1)) (W : Waits sig (HIx 1)) (j : ℕ) (acc : Acc F) : sProp 𝕄 :=
  iprop(Transfers.MayWaits (V d (cV L) (jV L)) (default : HIx 1) O ∗ ⌜acc = pack (colAcc X (base L) (128 * j))⌝
            ∗ ((yV).view.loc (V d (cV L) (jV L)) ↦{q} X) ∗ (∃ f', (sB).view.loc (V d (cV L) (jV L)) ↦{fullShare} f')
            ∗ semVal (V d (cV L) (jV L), SemLoc.dma cc0_scoped1.sem) 0
            ∗ ∃ W', ⌜∀ p ∈ W', p ∈ W ∨ p.2 = none⌝ ∗ owes (V d (cV L) (jV L)) O W')

set_option maxHeartbeats 1000000 in
theorem tile_core (qx qy : PosShare TreeShare) (X Y : S32768x256.Idx → F .f32) (fs : S128x256.Idx → F .f32) (fa : S512.Idx → F .f32) (fo : S32x512.Idx → F .f32)
    (O : CellTallies nD τ sig (HIx 1)) (W : Waits sig (HIx 1)) :
    iprop(Transfers.MayWaits (V d (cV L) (jV L)) (default : HIx 1) O
        ∗ ((xV).view.loc (V d (cV L) (jV L)) ↦{qx} X) ∗ ((yV).view.loc (V d (cV L) (jV L)) ↦{qy} Y)
        ∗ ((oRowK L).view.loc (V d (cV L) (jV L)) ↦[(oRowK L).view.set]{fullShare} fo)
        ∗ ((sB).view.loc (V d (cV L) (jV L)) ↦{fullShare} fs) ∗ ((sA).view.loc (V d (cV L) (jV L)) ↦{fullShare} fa)
        ∗ semVal (V d (cV L) (jV L), SemLoc.dma cc0_scoped0.sem) 0 ∗ semVal (V d (cV L) (jV L), SemLoc.dma cc0_scoped1.sem) 0
        ∗ semVal (V d (cV L) (jV L), SemLoc.dma cc0_scoped2.sem) 0 ∗ owes (V d (cV L) (jV L)) O W)
      ⊢ (wp frame (wpE (defs₀ (F := F)) 𝒱₀ (V d (cV L) (jV L)) none) Set.univ
          (cc0_ksum L xV (Memref.isWhole_whole _) yV (Memref.isWhole_whole _) oV (Memref.isWhole_whole _) sB (Memref.isWhole_whole _) sA (Memref.isWhole_whole _) cc0_scoped0 cc0_scoped1 cc0_scoped2)
          fun _ => iprop(((xV).view.loc (V d (cV L) (jV L)) ↦{qx} X) ∗ ((yV).view.loc (V d (cV L) (jV L)) ↦{qy} Y)
            ∗ ((oRowK L).view.loc (V d (cV L) (jV L)) ↦[(oRowK L).view.set]{fullShare} partials X Y)
            ∗ (∃ f', (sB).view.loc (V d (cV L) (jV L)) ↦{fullShare} f') ∗ (∃ f', (sA).view.loc (V d (cV L) (jV L)) ↦{fullShare} f')
            ∗ semVal (V d (cV L) (jV L), SemLoc.dma cc0_scoped0.sem) 0 ∗ semVal (V d (cV L) (jV L), SemLoc.dma cc0_scoped1.sem) 0
            ∗ semVal (V d (cV L) (jV L), SemLoc.dma cc0_scoped2.sem) 0
            ∗ ∃ W', ⌜∀ p ∈ W', p ∈ W ∨ p.2 = none⌝ ∗ owes (V d (cV L) (jV L)) O W') : sProp 𝕄) := by
  iintro ⟨#Hmw, Hx, Hy, Ho, Hs, Ha, Hsem0, Hsem1, Hsem2, HO⟩
  sl_unfold [cc0_ksum]
  sl_exec
  sl_for (inv1 d L qx X O W) $$ [Hx Hs Hsem0 HO]
  case region =>
    intro j acc
    iintro ⟨#Hmw, %hacc, Hx, ⟨%f', Hs⟩, Hsem0, ⟨%W', %hW, HO⟩⟩
    subst hacc
    iapply (wp_wand_r Idealize.ShloMosaic.frame _ Set.univ)
    isplitl [Hx Hs Hsem0 HO]
    · iapply (t1_trip d L qx X f' j O W')
      isplitr; · iexact Hmw
      isplitl [Hx]; · iexact Hx
      isplitl [Hs]; · iexact Hs
      isplitl [Hsem0]; · iexact Hsem0
      iexact HO
    iintro %r ⟨%hr, Hx, Hs, Hsem0, ⟨%W'', %hW', HO⟩⟩
    isplitr; · iexact Hmw
    isplitr; · ipureintro; exact hr
    isplitl [Hx]; · iexact Hx
    isplitl [Hs]; · iexact Hs
    isplitl [Hsem0]; · iexact Hsem0
    iexists _; isplitr
    swap; · iexact HO
    ipureintro; intro p hp
    rcases hW' p hp with h | h
    · exact hW p h
    · exact .inr h
  · isplitr; · iexact Hmw
    isplitr; · ipureintro; rfl
    isplitl [Hx]; · iexact Hx
    isplitl [Hs]; · iexists _; iexact Hs
    isplitl [Hsem0]; · iexact Hsem0
    iexists W; isplitr; · ipureintro; intro p hp; exact .inl hp
    iexact HO
  iintro %acc ⟨-, %hacc, Hx, ⟨%f1, Hs⟩, Hsem0, ⟨%W1, %hW1, HO⟩⟩
  rw [show 128 * Scf.trips k0_t1_loop.lb k0_t1_loop.ub k0_t1_loop.st = 1024 from by decide] at hacc
  subst hacc
  generalize hA : colAcc X (base L) 1024 = A
  unfold pack
  sl_exec
  sl_for (inv3 d L qy Y O W1) $$ [Hy Hs Hsem1 HO]
  case region =>
    intro j acc
    iintro ⟨#Hmw, %hacc, Hy, ⟨%f', Hs⟩, Hsem1, ⟨%W', %hW, HO⟩⟩
    subst hacc
    iapply (wp_wand_r Idealize.ShloMosaic.frame _ Set.univ)
    isplitl [Hy Hs Hsem1 HO]
    · iapply (t3_trip d L (tile_core.sl.v2 L) (tile_core.sl.r A) (tile_core.sl.r_1 A) (tile_core.sl.r_2 A) (tile_core.sl.r_3 A) (tile_core.sl.r_4 A) (tile_core.sl.r_5 A) (tile_core.sl.r_6 A) qy Y f' j O W')
      isplitr; · iexact Hmw
      isplitl [Hy]; · iexact Hy
      isplitl [Hs]; · iexact Hs
      isplitl [Hsem1]; · iexact Hsem1
      iexact HO
    iintro %r ⟨%hr, Hy, Hs, Hsem1, ⟨%W'', %hW', HO⟩⟩
    isplitr; · iexact Hmw
    isplitr; · ipureintro; exact hr
    isplitl [Hy]; · iexact Hy
    isplitl [Hs]; · iexact Hs
    isplitl [Hsem1]; · iexact Hsem1
    iexists _; isplitr
    swap; · iexact HO
    ipureintro; intro p hp
    rcases hW' p hp with h | h
    · exact hW p h
    · exact .inr h
  · isplitr; · iexact Hmw
    isplitr; · ipureintro; rfl
    isplitl [Hy]; · iexact Hy
    isplitl [Hs]; · iexists _; iexact Hs
    isplitl [Hsem1]; · iexact Hsem1
    iexists W1; isplitr; · ipureintro; intro p hp; exact .inl hp
    iexact HO
  iintro %acc ⟨-, %hacc, Hy, ⟨%f2, Hs⟩, Hsem1, ⟨%W2, %hW2, HO⟩⟩
  rw [show 128 * Scf.trips k0_t3_loop.lb k0_t3_loop.ub k0_t3_loop.st = 1024 from by decide] at hacc
  subst hacc
  generalize hB : colAcc Y (base L) 1024 = B
  unfold pack
  sl_exec
  have hw : ∀ y, tile_core.sl.dma32 fa A B y = joined A B y := by
    intro y
    unfold tile_core.sl.dma32 tile_core.sl.Ha_32
    exact stores_value A B fa y
  subst hA hB
  ihave Ho' := (Entails.of_eq (pointsTo_congr (row_value L X Y fo _ hw))) $$ Ho
  sl_step
  isplitl [Hx]; · iexact Hx
  isplitl [Hy]; · iexact Hy
  isplitl [Ho']; · iexact Ho'
  isplitl [Hs]; · iexists _; iexact Hs
  isplitl [Ha]; · iexists _; iexact Ha
  isplitl [Hsem0]; · iexact Hsem0
  isplitl [Hsem1]; · iexact Hsem1
  isplitl [Hsem2]; · iexact Hsem2
  iexists _; isplitr
  swap; · iexact HO
  ipureintro; intro p hp
  rcases Finset.mem_insert.mp hp with hp | hp
  · exact .inr (hp ▸ rfl)
  rcases hW2 p hp with hp | hp
  · exact hW1 p hp
  · exact .inr hp

end Tile

end Cert.Proof.KernelIdeal
-- ==== Proof.LaunchIdeal.lean ====
/-
  The SparseCore call of the segment-sum kernel: what each tile is given and what it brings back, and how the whole
  tables and the array of partial sums are dealt to the thirty-two tiles and put together again.
-/
module

public import proofs.«01_k».proof.Proof.BodyIdeal

@[expose] public section

noncomputable section

namespace Cert.Proof.KernelIdeal

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.ValueIdx (ix2 ix1 eq_ix2)

variable {F : FTy → Type}

theorem nSub_zero : (K (F := F)).nSub 0 = 16 := rfl
theorem nCore_zero : (K (F := F)).nCore 0 = 2 := rfl
abbrev D [FloatOps F] : Defs nD τ sig (Elt F) (ΛP (F := F)) := Pipeline.defs pcfgs defs₀
abbrev 𝒱 : Variants := 𝒱₀.lift
abbrev v₀ : 𝒱.V := Sum.inl none

/-- The launch's side conditions: the handshake semaphores are distinct and unscoped, and no buffer is shared by tiles. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

local notation "xV" => (Memref.whole Cert.KernelIdeal.main_arg0_scv : Memref Cert.KernelIdeal.sig Kind.scVector Space.hbm Cert.KernelIdeal.S32768x256 EltTy.f32)
local notation "yV" => (Memref.whole Cert.KernelIdeal.main_arg1_scv : Memref Cert.KernelIdeal.sig Kind.scVector Space.hbm Cert.KernelIdeal.S32768x256 EltTy.f32)
local notation "oV" => (Memref.whole Cert.KernelIdeal.main_v0_scv : Memref Cert.KernelIdeal.sig Kind.scVector Space.hbm Cert.KernelIdeal.S32x512 EltTy.f32)
local notation "sB" => (Memref.whole Cert.KernelIdeal.cc0_scratch0 : Memref Cert.KernelIdeal.sig Kind.scVector Space.vmem Cert.KernelIdeal.S128x256 EltTy.f32)
local notation "sA" => (Memref.whole Cert.KernelIdeal.cc0_scratch1 : Memref Cert.KernelIdeal.sig Kind.scVector Space.vmem Cert.KernelIdeal.S512 EltTy.f32)

abbrev EH : Emb UH 𝕄 := embL

variable (m : (ℓ : Loc nD τ sig) → Buf (Elt F) ℓ)

/-- The two tables and the partial sums, as locations of device `d`. -/
abbrev xLoc (d : Dev nD) : Loc nD τ sig := (SparseCore.T d).loc main_arg0
abbrev yLoc (d : Dev nD) : Loc nD τ sig := (SparseCore.T d).loc main_arg1
abbrev oLoc (d : Dev nD) : Loc nD τ sig := (SparseCore.T d).loc main_v0

/-! ## The rows of the partial sums -/

theorem hdiv : 32 ∣ S32x512.size 0 := ⟨1, rfl⟩
/-- Row `i` of the 32 rows of partial sums. -/
abbrev row (i : Fin 32) : Rect S32x512 := Rect.part (s := S32x512) (a₀ := 0) hdiv i
/-- Tile `i` of SparseCore `c` owns row `2 i + c`. -/
def rowIx (c : Fin 2) (i : Fin 16) : Fin 32 := ⟨2 * i.val + c.val, by omega⟩
abbrev rowSet (c : Fin 2) (i : Fin 16) : Finset S32x512.Idx := ((oV).view.slice (row (rowIx c i))).set

theorem rowSet_eq (c : Fin 2) (i : Fin 16) : rowSet c i = (row (rowIx c i)).set := by
  show ((View.whole (main_v0_scv : Ref sig .scVector)).slice (row (rowIx c i))).set = _
  rw [View.set_slice]; exact Finset.map_refl

theorem rowIx_inj {c c' : Fin 2} {i i' : Fin 16} (h : rowIx c i = rowIx c' i') : (c, i) = (c', i') := by
  have h' : 2 * i.val + c.val = 2 * i'.val + c'.val := congrArg Fin.val h
  refine Prod.ext (Fin.ext ?_) (Fin.ext ?_)
  · show c.val = c'.val
    omega
  · show i.val = i'.val
    omega

theorem rows_disjoint : ∀ p ∈ (Finset.univ : Finset (Fin 2 × Fin 16)), ∀ p' ∈ (Finset.univ : Finset (Fin 2 × Fin 16)), p ≠ p' →
    Disjoint (rowSet p.1 p.2) (rowSet p'.1 p'.2) := by
  intro p _ p' _ h
  rw [rowSet_eq, rowSet_eq]
  exact Rect.part_disjoint hdiv fun e => h (rowIx_inj e)

theorem rows_cover : (Finset.univ : Finset (Fin 2 × Fin 16)).biUnion (fun p => rowSet p.1 p.2) = Finset.univ := by
  rw [Finset.eq_univ_iff_forall]
  intro x
  have hx : x ∈ (Finset.univ : Finset (Fin 32)).biUnion fun i => (row i).set := by
    rw [Rect.biUnion_part hdiv]; exact Finset.mem_univ x
  obtain ⟨i, -, hi⟩ := Finset.mem_biUnion.mp hx
  refine Finset.mem_biUnion.mpr ⟨(⟨i.val % 2, by omega⟩, ⟨i.val / 2, by omega⟩), Finset.mem_univ _, ?_⟩
  rw [rowSet_eq, show rowIx (⟨i.val % 2, by omega⟩ : Fin 2) (⟨i.val / 2, by omega⟩ : Fin 16) = i from Fin.ext (by
    show 2 * (i.val / 2) + i.val % 2 = i.val
    omega)]
  exact hi

/-! ## Shares and what the handshakes carry -/

/-- The share of a table that SparseCore `c` reads, and the share its tile `i` reads. -/
abbrev qC (c : Fin 2) : PosShare TreeShare := ShareLeaves.leaf 1 fullShare c
abbrev qT (c : Fin 2) (i : Fin 16) : PosShare TreeShare := ShareLeaves.leaf 4 (qC c) i

abbrev xPts (q : PosShare TreeShare) (d : Dev nD) : sProp 𝕄 := xLoc d ↦{q} m (xLoc d)
abbrev yPts (q : PosShare TreeShare) (d : Dev nD) : sProp 𝕄 := yLoc d ↦{q} m (yLoc d)
abbrev oRow (d : Dev nD) (c : Fin 2) (i : Fin 16) (f : Buf (Elt F) (oLoc d)) : sProp 𝕄 := oLoc d ↦[rowSet c i]{fullShare} f

theorem tableLeaves (d : Dev nD) (c : Fin 2) :
    ((xPts m (qC c) d : sProp 𝕄) = bigSep Finset.univ fun i : Fin 16 => xPts m (qT c i) d)
      ∧ ((yPts m (qC c) d : sProp 𝕄) = bigSep Finset.univ fun i : Fin 16 => yPts m (qT c i) d) :=
  ⟨ShareLeaves.pointsTo_leaves _ _ 4 _, ShareLeaves.pointsTo_leaves _ _ 4 _⟩

theorem tableCores (d : Dev nD) :
    ((xPts m fullShare d : sProp 𝕄) = bigSep Finset.univ fun c : Fin 2 => xPts m (qC c) d)
      ∧ ((yPts m fullShare d : sProp 𝕄) = bigSep Finset.univ fun c : Fin 2 => yPts m (qC c) d) :=
  ⟨ShareLeaves.pointsTo_leaves _ _ 1 _, ShareLeaves.pointsTo_leaves _ _ 1 _⟩

theorem partial_rows (d : Dev nD) (f : Buf (Elt F) (oLoc d)) :
    (oLoc d ↦{fullShare} f : sProp 𝕄) = bigSep Finset.univ fun c : Fin 2 => bigSep Finset.univ fun i : Fin 16 => oRow d c i f := by
  rw [← bigSep_univ_prod (fun p : Fin 2 × Fin 16 => oRow d p.1 p.2 f),
    ← pointsTo_biUnion Finset.univ (ℓ := oLoc d) (fun p : Fin 2 × Fin 16 => rowSet p.1 p.2) rows_disjoint, rows_cover]

variable [FloatOps F]

/-- The partial sums the call leaves on device `d`. -/
abbrev psum (d : Dev nD) : Buf (Elt F) (oLoc d) := partials (m (xLoc d)) (m (yLoc d))

/-- What SparseCore `c` is given (and, with the partial sums, gives back), and what its tile `i` is given. -/
abbrev coreRes (d : Dev nD) (c : Fin 2) (f : Buf (Elt F) (oLoc d)) : sProp 𝕄 :=
  iprop(xPts m (qC c) d ∗ yPts m (qC c) d ∗ bigSep Finset.univ fun i : Fin 16 => oRow d c i f)
abbrev tileRes (d : Dev nD) (c : Fin 2) (i : Fin 16) (f : Buf (Elt F) (oLoc d)) : sProp 𝕄 :=
  iprop(xPts m (qT c i) d ∗ yPts m (qT c i) d ∗ oRow d c i f)

/-- The one call: every SparseCore gets a read share of both tables and its rows of the output, every tile a share of
    that and its own row; the row comes back with the tile's column sums in it. -/
def P : (K (F := F)).Pay (nD := nD) (Val := Elt F) (Name := ℕ) (U := UU) where
  st := fun q d c => match q with | 0 => coreRes m d (Fin.cast nCore_zero c) (m (oLoc d))
  dn := fun q d c => match q with | 0 => coreRes m d (Fin.cast nCore_zero c) (psum m d)
  go := fun q d c i => match q with | 0 => tileRes m d (Fin.cast nCore_zero c) (Fin.cast nSub_zero i) (m (oLoc d))
  td := fun q d c i => match q with | 0 => tileRes m d (Fin.cast nCore_zero c) (Fin.cast nSub_zero i) (psum m d)
  x := fun _ _ => iprop(emp)

instance P_storable : (P (F := F) m).IsStorable where
  st q d c := match q with
    | 0 => (inferInstance : BI.Storable (upEmb : UEmb _ 𝕄) (coreRes m d (Fin.cast nCore_zero c) (m (oLoc d))))
  dn q d c := match q with
    | 0 => (inferInstance : BI.Storable (upEmb : UEmb _ 𝕄) (coreRes m d (Fin.cast nCore_zero c) (psum m d)))
  go q d c i := match q with
    | 0 => (inferInstance : BI.Storable (upEmb : UEmb _ 𝕄) (tileRes m d (Fin.cast nCore_zero c) (Fin.cast nSub_zero i) (m (oLoc d))))
  td q d c i := match q with
    | 0 => (inferInstance : BI.Storable (upEmb : UEmb _ 𝕄) (tileRes m d (Fin.cast nCore_zero c) (Fin.cast nSub_zero i) (psum m d)))

/-! ## The task from the launch's resources -/

section Task

variable (d : Dev nD) (L : grid0.Coords)

omit [FloatOps F] in
theorem bound_one : grid0.bound 1 = 16 := rfl
omit [FloatOps F] in
theorem bound_zero : grid0.bound 0 = 2 := rfl
abbrev cL (L : grid0.Coords) : Fin 2 := Fin.cast bound_zero (L 0)
abbrev iL (L : grid0.Coords) : Fin 16 := Fin.cast bound_one (L 1)

omit [FloatOps F] in
theorem rowK_eq : Rect.unit (s := S32x512) (k0_off35 L) S1x512.size (k0_off35_inb L) = row (rowIx (cL L) (iL L)) := by
  unfold row Rect.part Rect.block
  congr 1 <;> funext a
  · rw [k0_off35_eq]
    match a with
    | 0 => simp [Shape.partIx, Shape.partSize, rowIx, Nat.mul_comm]
    | 1 => simp [Shape.partIx, Shape.partSize]
  · match a with
    | 0 => simp [Shape.partSize]
    | 1 => simp [Shape.partSize]

omit [FloatOps F] in
theorem set_oRowK : (oRowK L).view.set = rowSet (cL L) (iL L) := by
  show (((oV).view.slice (Rect.unit (s := S32x512) (k0_off35 L) S1x512.size (k0_off35_inb L))).reshape S512 squeezes_S1x512_S512.numel_eq).set
    = ((oV).view.slice (row (rowIx (cL L) (iL L)))).set
  rw [View.set_reshape]
  exact rowK_eq L ▸ rfl

omit [FloatOps F] in
theorem pts_oRowK (f : Buf (Elt F) (oLoc d)) :
    ((oRowK L).view.loc (V d (cV L) (jV L)) ↦[(oRowK L).view.set]{fullShare} f : sProp 𝕄) = oRow d (cL L) (iL L) f := by
  rw [set_oRowK]

/-- The tile's three transfer semaphores. -/
abbrev cell0 (d : Dev nD) (c : Fin τ.nSC) (i : Fin τ.nSub) : GSem nD τ sig := (V d c i, .dma cc0_scoped0.sem)
abbrev cell1 (d : Dev nD) (c : Fin τ.nSC) (i : Fin τ.nSub) : GSem nD τ sig := (V d c i, .dma cc0_scoped1.sem)
abbrev cell2 (d : Dev nD) (c : Fin τ.nSC) (i : Fin τ.nSub) : GSem nD τ sig := (V d c i, .dma cc0_scoped2.sem)

omit [FloatOps F] in
theorem ownSems0_V :
    (ownSems0 (V d (cV L) (jV L)) : sProp 𝕄)
      = iprop(semVal (cell0 d (cV L) (jV L)) 0 ∗ semVal (cell1 d (cV L) (jV L)) 0 ∗ semVal (cell2 d (cV L) (jV L)) 0
          ∗ bigSep ((((ownCells (V d (cV L) (jV L))).erase (cell0 d (cV L) (jV L))).erase (cell1 d (cV L) (jV L))).erase (cell2 d (cV L) (jV L)))
              fun g => semVal g 0) := by
  unfold SparseCore.Cfg.ownSems0
  rw [SparseCore.bigSep_erase' ((mem_ownCells (g := cell0 d (cV L) (jV L))).mpr ⟨rfl, by
      show (SemLoc.dma cc0_scoped0.sem : SemLoc sig).isScoped .scVector = true; decide⟩),
    SparseCore.bigSep_erase' (Finset.mem_erase.mpr ⟨by simp [cell0, cell1]; decide, (mem_ownCells (g := cell1 d (cV L) (jV L))).mpr ⟨rfl, by
      show (SemLoc.dma cc0_scoped1.sem : SemLoc sig).isScoped .scVector = true; decide⟩⟩),
    SparseCore.bigSep_erase' (Finset.mem_erase.mpr ⟨by simp [cell1, cell2]; decide, Finset.mem_erase.mpr ⟨by simp [cell0, cell2]; decide,
      (mem_ownCells (g := cell2 d (cV L) (jV L))).mpr ⟨rfl, by show (SemLoc.dma cc0_scoped2.sem : SemLoc sig).isScoped .scVector = true; decide⟩⟩⟩)]

omit [FloatOps F] in
/-- The tile's own buffers: its row buffer and its accumulator, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

/-- The tile at coordinates `L`, from what the launch hands it to what it hands back. -/
theorem tile_body (hF : (K (F := F)).Facts) (O : CellTallies nD τ sig (HIx 1)) (W : Waits sig (HIx 1)) (hO : ∀ g, O g none = 0) :
    iprop(levAts (K (F := F)).L (K (F := F)).lev ∗ emp ∗ tileRes m d (cL L) (iL L) (m (oLoc d))
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_ksum L xV (Memref.isWhole_whole _) yV (Memref.isWhole_whole _) oV (Memref.isWhole_whole _) sB (Memref.isWhole_whole _) sA (Memref.isWhole_whole _) cc0_scoped0 cc0_scoped1 cc0_scoped2)
          fun _ => iprop(tileRes m d (cL L) (iL L) (psum m d)
            ∗ scopedBufs (V d (cV L) (jV L)) ∗ scopedSems0 (V d (cV L) (jV L))
            ∗ ∃ W', ⌜∀ p ∈ W', p ∈ W ∨ p.2 = none ∨ p.2 = some (0 : Fin 1)⌝ ∗ owes (V d (cV L) (jV L)) O W') := by
  rw [(K (F := F)).scopedBufs_V hF d (cV L) (jV L), SparseCore.Cfg.scopedSems0_V (Val := Elt F) d (cV L) (jV L), ownSems0_V, ownBufs_V]
  iintro ⟨#Hlv, -, ⟨Hx, Hy, Ho⟩, ⟨⟨%fs, Hs⟩, ⟨%fa, Ha⟩, Hbufs⟩, ⟨H0, H1, H2, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Ho' := (Entails.of_eq (pts_oRowK (F := F) d L _).symm) $$ Ho
  ihave Hwp := (tile_core (F := F) d L (qT (cL L) (iL L)) (qT (cL L) (iL L)) (m (xLoc d)) (m (yLoc d)) fs fa (m (oLoc d)) O W) $$ [Hmw Hx Hy Ho' Hs Ha H0 H1 H2 HO]
  · isplitl [Hmw]; · iexact Hmw
    isplitl [Hx]; · iexact Hx
    isplitl [Hy]; · iexact Hy
    isplitl [Ho']; · iexact Ho'
    isplitl [Hs]; · iexact Hs
    isplitl [Ha]; · iexact Ha
    isplitl [H0]; · iexact H0
    isplitl [H1]; · iexact H1
    isplitl [H2]; · iexact H2
    iexact HO
  iapply wp_wand $$ [Hwp]
  · iexact Hwp
  iintro %_ ⟨Hx, Hy, Ho, ⟨%fs', Hs⟩, ⟨%fa', Ha⟩, H0, H1, H2, ⟨%W', %hW', HO⟩⟩
  isplitl [Hx Hy Ho]
  · isplitl [Hx]; · iexact Hx
    isplitl [Hy]; · iexact Hy
    iapply (Entails.of_eq (pts_oRowK (F := F) d L _)); iexact Ho
  isplitl [Hs Ha Hbufs]
  · isplitl [Hs]; · iexists _; iexact Hs
    isplitl [Ha]; · iexists _; iexact Ha
    iexact Hbufs
  isplitl [H0 H1 H2 Hsems]
  · isplitl [H0]; · iexact H0
    isplitl [H1]; · iexact H1
    isplitl [H2]; · iexact H2
    iexact Hsems
  iexists _; isplitr
  swap; · iexact HO
  ipureintro; intro p hp
  rcases hW' p hp with h | h
  · exact .inl h
  · exact .inr (.inl h)

/-- The coordinates of tile `s` of SparseCore `c`. -/
def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0_ksum (coordsV c s)
          xV (Memref.isWhole_whole _) yV (Memref.isWhole_whole _) oV (Memref.isWhole_whole _) sB (Memref.isWhole_whole _) sA (Memref.isWhole_whole _) cc0_scoped0 cc0_scoped1 cc0_scoped2) ⟨⟩ c s := rfl

/-- Every tile keeps its promise to the launch. -/
theorem tileObl (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hF O W hO

end Task

/-! ## The SparseCore deals to its tiles -/

omit [FloatOps F] in
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
omit [FloatOps F] in
theorem bigSep_cores (Φ : Fin 2 → sProp 𝕄) :
    (bigSep Finset.univ fun c : Fin ((K (F := F)).nCore 0) => Φ (Fin.cast nCore_zero c)) = bigSep Finset.univ Φ :=
  bigSep_congr fun _ _ => congrArg Φ (Fin.ext rfl)

omit [FloatOps F] in
/-- A SparseCore's resources are its tiles' together. -/
theorem coreRes_tiles (d : Dev nD) (c : Fin 2) (f : Buf (Elt F) (oLoc d)) :
    (coreRes m d c f : sProp 𝕄) = bigSep Finset.univ fun i : Fin 16 => tileRes m d c i f := by
  unfold coreRes tileRes
  rw [bigSep_sep', bigSep_sep', (tableLeaves m d c).1, (tableLeaves m d c).2]

theorem vecSplit : (K (F := F)).VecSplit' (P m) 0 := by
  intro d c
  show (coreRes m d (Fin.cast nCore_zero c) (m (oLoc d)) : sProp 𝕄) ⊢ |={Set.univ}=> iprop(
      (bigSep Finset.univ fun i : Fin ((K (F := F)).nSub 0) => tileRes m d (Fin.cast nCore_zero c) (Fin.cast nSub_zero i) (m (oLoc d)))
      ∗ ((bigSep Finset.univ fun i : Fin ((K (F := F)).nSub 0) => tileRes m d (Fin.cast nCore_zero c) (Fin.cast nSub_zero i) (psum m d))
          -∗ coreRes m d (Fin.cast nCore_zero c) (psum m d)))
  rw [bigSep_tasks (F := F) (fun i => tileRes m d (Fin.cast nCore_zero c) i (m (oLoc d))),
    bigSep_tasks (F := F) (fun i => tileRes m d (Fin.cast nCore_zero c) i (psum m d)), ← coreRes_tiles, ← coreRes_tiles]
  iintro H; imodintro
  isplitl [H]; · iexact H
  iintro H; iexact H

omit [FloatOps F] in
/-- The tables and the partial sums whole are what the two SparseCores hold together. -/
theorem cores_join (d : Dev nD) (f : Buf (Elt F) (oLoc d)) :
    (bigSep Finset.univ fun c : Fin 2 => coreRes m d c f) = (iprop(xPts m fullShare d ∗ yPts m fullShare d ∗ oLoc d ↦{fullShare} f) : sProp 𝕄) := by
  unfold coreRes
  rw [bigSep_sep', bigSep_sep', (tableCores m d).1, (tableCores m d).2, partial_rows]

theorem st0_eq (d : Dev nD) :
    (bigSep Finset.univ fun c : Fin ((K (F := F)).nCore 0) => (P m).st 0 d c) = iprop(xPts m fullShare d ∗ yPts m fullShare d ∗ oLoc d ↦{fullShare} m (oLoc d)) :=
  (bigSep_cores (F := F) fun c => coreRes m d c (m (oLoc d))).trans (cores_join m d _)
theorem dn0_eq (d : Dev nD) :
    (bigSep Finset.univ fun c : Fin ((K (F := F)).nCore 0) => (P m).dn 0 d c) = iprop(xPts m fullShare d ∗ yPts m fullShare d ∗ oLoc d ↦{fullShare} psum m d) :=
  (bigSep_cores (F := F) fun c => coreRes m d c (psum m d)).trans (cores_join m d _)

end Cert.Proof.KernelIdeal
-- ==== Proof.RegionIdeal.lean ====
/-
  The TensorCore part of the segment-sum kernel: the pooled rows divided by their counts, and the three-layer network
  with its logistic output, as one pallas_call with no grid.
-/
module

public import proofs.«01_k».proof.Proof.LaunchIdeal
public import proofs.«01_k».proof.Proof.Gen.KernelIdeal.Launch
public import proofs.«01_k».proof.Proof.Gen.KernelIdeal.Points
public import Idealize.ShloMosaic.Lib.Pipeline.RegionsLoop
public import Idealize.ShloMosaic.Lib.Pipeline.ValueKit.Geometry

@[expose] public section

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx (ix3 ix2 ix1 eq_ix2 eq_ix3)

variable {F : FTy → Type} [FloatOps F]

local notation "𝕄" => MT nD τ sig (HIx 1) (Elt F) ℕ UU ℕ

/-! ## The value of the network -/

/-- Half `h` of every segment: the column sums that tile `2 i + h` left. -/
def half (h : Fin 2) (P : S16x2x512.Idx → F .f32) : S16x1x512.Idx → F .f32 := fun i => P (ix3 (n0 := 16) (n1 := 2) (n2 := 512) (i 0) h (i 2))

/-- What the TensorCore computes from the two halves of every segment's column sums, the counts and the weights. -/
def head (P : S16x2x512.Idx → F .f32) (n : S16x1.Idx → F .f32) (w1 : S512x256.Idx → F .f32) (b1 : S1x256.Idx → F .f32) (w2 : S256x256.Idx → F .f32)
    (b2 : S1x256.Idx → F .f32) (w3 : S256x1.Idx → F .f32) (b3 : S1x1.Idx → F .f32) : S16x1.Idx → F .f32 :=
  k1_pay1 (k1_pay2 (half 0 P) (half 1 P) n w1 b1 w2 b2 w3 b3)

/-! ## Reading and writing a whole buffer -/

/-- A rectangle of the array's own size at offset zero is the array: its indices are the array's. -/
theorem unit_zero_emb {s : Shape} {o : Fin s.rank → ℕ} (h : ∀ a, o a + s.size a ≤ s.size a) (ho : ∀ a, o a = 0) (y : s.Idx) :
    (Rect.unit (s := s) o s.size h).emb y = y := by
  funext a; apply Fin.ext
  show o a + 1 * (y a).val = _
  rw [ho a]; omega

theorem off2_zero : ∀ a : Fin 2, (![0, 0] : Fin 2 → ℕ) a = 0 := by decide

/-- The rectangle of half `h`: element `(i, 0, k)` of it is element `(i, h, k)` of the array. -/
theorem half_emb (h : Fin 2) {hb : ∀ a, (![0, h.val, 0] : Fin 3 → ℕ) a + (![16, 1, 512] : Fin 3 → ℕ) a ≤ S16x2x512.size a} (i : S16x1x512.Idx) :
    (Rect.unit (s := S16x2x512) ![0, h.val, 0] ![16, 1, 512] hb).emb i = ix3 (n0 := 16) (n1 := 2) (n2 := 512) (i 0) h (i 2) := by
  have h1 : (i 1).val < 1 := (i 1).isLt
  funext a; apply Fin.ext
  match a with
  | 0 => show 0 + 1 * (i 0).val = (i 0).val; omega
  | 1 => show h.val + 1 * (i 1).val = h.val; omega
  | 2 => show 0 + 1 * (i 2).val = (i 2).val; omega

/-! ## The body, run by the executor -/

abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

theorem body_run (c : Dev nD) (f0 : S16x2x512.Idx → F .f32) (f1 : S16x1.Idx → F .f32) (f2 : S512x256.Idx → F .f32) (f3 : S1x256.Idx → F .f32)
    (f4 : S256x256.Idx → F .f32) (f5 : S1x256.Idx → F .f32) (f6 : S256x1.Idx → F .f32) (f7 : S1x1.Idx → F .f32) (f8 : S16x1.Idx → F .f32) (E : Set ℕ) (Q : PUnit → sProp 𝕄) :
    iprop(pt c (stage1_0 0) f0 ∗ pt c (stage1_1 0) f1 ∗ pt c (stage1_2 0) f2 ∗ pt c (stage1_3 0) f3 ∗ pt c (stage1_4 0) f4 ∗ pt c (stage1_5 0) f5
        ∗ pt c (stage1_6 0) f6 ∗ pt c (stage1_7 0) f7 ∗ pt c (stage1_8 0) f8
        ∗ (iprop(pt c (stage1_0 0) f0 ∗ pt c (stage1_1 0) f1 ∗ pt c (stage1_2 0) f2 ∗ pt c (stage1_3 0) f3 ∗ pt c (stage1_4 0) f4 ∗ pt c (stage1_5 0) f5
          ∗ pt c (stage1_6 0) f6 ∗ pt c (stage1_7 0) f7 ∗ pt c (stage1_8 0) (head f0 f1 f2 f3 f4 f5 f6 f7)) -∗ Q ⟨⟩))
      ⊢ wp frame (wpE (defs₀ (F := F)) 𝒱₀ c none) E (cc1_body (stage1_0 0) (hstage1_0 0) (stage1_1 0) (hstage1_1 0) (stage1_2 0) (hstage1_2 0) (stage1_3 0) (hstage1_3 0) (stage1_4 0) (hstage1_4 0) (stage1_5 0) (hstage1_5 0) (stage1_6 0) (hstage1_6 0) (stage1_7 0) (hstage1_7 0) (stage1_8 0) (hstage1_8 0)) Q := by
  iintro ⟨H0, H1, H2, H3, H4, H5, H6, H7, H8, Hk⟩
  sl_exec
  sl_step
  have hload : ∀ i, (body_run.sl.r f0 f1 f2 f3 f4 f5 f6 f7) i = k1_pay2 (half 0 f0) (half 1 f0) f1 f2 f3 f4 f5 f6 f7 i := by
    intro i
    unfold body_run.sl.r
    rw [show View.readAt (Elt F) (stage1_0 0).view (Rect.unit (s := S16x2x512) ![0, 0, 0] S16x1x512.size inb_S16x2x512_S16x1x512_0_0_0).toLoadRect f0 = half 0 f0 from
        funext fun i => congrArg f0 (half_emb 0 i),
      show View.readAt (Elt F) (stage1_0 0).view (Rect.unit (s := S16x2x512) ![0, 1, 0] S16x1x512.size inb_S16x2x512_S16x1x512_0_1_0).toLoadRect f0 = half 1 f0 from
        funext fun i => congrArg f0 (half_emb 1 i),
      show View.readAt (Elt F) (stage1_1 0).view (Rect.unit (s := S16x1) ![0, 0] S16x1.size inb_S16x1_S16x1_0_0).toLoadRect f1 = f1 from
        funext fun i => congrArg f1 (unit_zero_emb inb_S16x1_S16x1_0_0 off2_zero i),
      show View.readAt (Elt F) (stage1_2 0).view (Rect.unit (s := S512x256) ![0, 0] S512x256.size inb_S512x256_S512x256_0_0).toLoadRect f2 = f2 from
        funext fun i => congrArg f2 (unit_zero_emb inb_S512x256_S512x256_0_0 off2_zero i),
      show View.readAt (Elt F) (stage1_3 0).view (Rect.unit (s := S1x256) ![0, 0] S1x256.size inb_S1x256_S1x256_0_0).toLoadRect f3 = f3 from
        funext fun i => congrArg f3 (unit_zero_emb inb_S1x256_S1x256_0_0 off2_zero i),
      show View.readAt (Elt F) (stage1_4 0).view (Rect.unit (s := S256x256) ![0, 0] S256x256.size inb_S256x256_S256x256_0_0).toLoadRect f4 = f4 from
        funext fun i => congrArg f4 (unit_zero_emb inb_S256x256_S256x256_0_0 off2_zero i),
      show View.readAt (Elt F) (stage1_5 0).view (Rect.unit (s := S1x256) ![0, 0] S1x256.size inb_S1x256_S1x256_0_0).toLoadRect f5 = f5 from
        funext fun i => congrArg f5 (unit_zero_emb inb_S1x256_S1x256_0_0 off2_zero i),
      show View.readAt (Elt F) (stage1_6 0).view (Rect.unit (s := S256x1) ![0, 0] S256x1.size inb_S256x1_S256x1_0_0).toLoadRect f6 = f6 from
        funext fun i => congrArg f6 (unit_zero_emb inb_S256x1_S256x1_0_0 off2_zero i),
      show View.readAt (Elt F) (stage1_7 0).view (Rect.unit (s := S1x1) ![0, 0] S1x1.size inb_S1x1_S1x1_0_0).toLoadRect f7 = f7 from
        funext fun i => congrArg f7 (unit_zero_emb inb_S1x1_S1x1_0_0 off2_zero i)]
  have e : (stage1_8 0).view.writes (Elt F) f8 [⟨Rect.unit ![0, 0] S16x1.size inb_S16x1_S16x1_0_0, k1_pay1 (body_run.sl.r f0 f1 f2 f3 f4 f5 f6 f7)⟩]
      = head f0 f1 f2 f3 f4 f5 f6 f7 := by
    funext y
    have h := View.read_writes_cons_emb (Val := Elt F) (stage1_8 0).view f8 (Rect.unit (s := S16x1) ![0, 0] S16x1.size inb_S16x1_S16x1_0_0)
      (k1_pay1 (body_run.sl.r f0 f1 f2 f3 f4 f5 f6 f7)) [] y
    rw [View.read_apply, unit_zero_emb inb_S16x1_S16x1_0_0 off2_zero] at h
    refine (cast_eq _ _).symm.trans (h.trans ?_)
    rw [funext hload]; rfl
  rw [e]
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  iexact H8

/-! ## The proof data, at an entry valuation -/

variable (V : (c : Dev nD) → (b : Ref sig .tc) → Buf (Elt F) ((c : Thread nD τ).loc b))

/-- The network's output from the arrays' contents on entry. -/
def headAt (c : Dev nD) : S16x1.Idx → F .f32 :=
  head (V c main_v1) (V c main_v3) (V c main_arg2) (V c main_v4) (V c main_arg4) (V c main_v5) (V c main_arg6) (V c main_v6)

/-- The instance that places the one SparseCore call among the levels. -/
abbrev Z : SparseCore.Cfg.Blocks 1 1 := inferInstance

/-- The waits the TensorCore has made before this call: those whose level the first SparseCore call allows. -/
def waited (c : Dev nD) : Set (SemLoc sig × HIx 1) := {p | (K (F := F)).lev (SparseCore.T c, p.1) p.2 ≤ 8 * Z.fst 1}

/-- The call's data: the arrays as on entry; after the body every operand's buffer as fetched and the result's at the
    network's output; nothing owed. -/
def dat (c : Dev nD) : Dat τ (Elt F) (HIx 1) ℕ UU ℕ cfg1 c where
  A w := V c (Pipeline.arrRef spec1 w)
  after w _ := match w with
    | ⟨0, _⟩ => V c main_v1
    | ⟨1, _⟩ => V c main_v3
    | ⟨2, _⟩ => V c main_arg2
    | ⟨3, _⟩ => V c main_v4
    | ⟨4, _⟩ => V c main_arg4
    | ⟨5, _⟩ => V c main_v5
    | ⟨6, _⟩ => V c main_arg6
    | ⟨7, _⟩ => V c main_v6
    | ⟨8, _⟩ => headAt V c
  Φ _ := Pipeline.scopedRest (Ix := HIx 1) (Name := ℕ) (U := UU) (Lvl := ℕ) (Val := Elt F) spec1 c
  q _ := fullShare
  owed _ := 0
  recorded _ := waited (F := F) c

theorem before0 (c : Dev nD) (d) : (dat V c).before 0 t1_0 d = V c main_v1 := by
  unfold Dat.before; rw [if_pos (by decide)]
  funext y
  show V c main_v1 (((cfg1.win 0).blk t1_0).view.emb y) = V c main_v1 y
  congr 1
  funext a; apply Fin.ext
  show 0 * _ + 1 * (y a).val = (y a).val
  omega
theorem before1 (c : Dev nD) (d) : (dat V c).before 1 t1_0 d = V c main_v3 := by
  unfold Dat.before; rw [if_pos (by decide)]
  funext y
  show V c main_v3 (((cfg1.win 1).blk t1_0).view.emb y) = V c main_v3 y
  congr 1
  funext a; apply Fin.ext
  show 0 * _ + 1 * (y a).val = (y a).val
  omega
theorem before2 (c : Dev nD) (d) : (dat V c).before 2 t1_0 d = V c main_arg2 := by
  unfold Dat.before; rw [if_pos (by decide)]
  funext y
  show V c main_arg2 (((cfg1.win 2).blk t1_0).view.emb y) = V c main_arg2 y
  congr 1
  funext a; apply Fin.ext
  show 0 * _ + 1 * (y a).val = (y a).val
  omega
theorem before3 (c : Dev nD) (d) : (dat V c).before 3 t1_0 d = V c main_v4 := by
  unfold Dat.before; rw [if_pos (by decide)]
  funext y
  show V c main_v4 (((cfg1.win 3).blk t1_0).view.emb y) = V c main_v4 y
  congr 1
  funext a; apply Fin.ext
  show 0 * _ + 1 * (y a).val = (y a).val
  omega
theorem before4 (c : Dev nD) (d) : (dat V c).before 4 t1_0 d = V c main_arg4 := by
  unfold Dat.before; rw [if_pos (by decide)]
  funext y
  show V c main_arg4 (((cfg1.win 4).blk t1_0).view.emb y) = V c main_arg4 y
  congr 1
  funext a; apply Fin.ext
  show 0 * _ + 1 * (y a).val = (y a).val
  omega
theorem before5 (c : Dev nD) (d) : (dat V c).before 5 t1_0 d = V c main_v5 := by
  unfold Dat.before; rw [if_pos (by decide)]
  funext y
  show V c main_v5 (((cfg1.win 5).blk t1_0).view.emb y) = V c main_v5 y
  congr 1
  funext a; apply Fin.ext
  show 0 * _ + 1 * (y a).val = (y a).val
  omega
theorem before6 (c : Dev nD) (d) : (dat V c).before 6 t1_0 d = V c main_arg6 := by
  unfold Dat.before; rw [if_pos (by decide)]
  funext y
  show V c main_arg6 (((cfg1.win 6).blk t1_0).view.emb y) = V c main_arg6 y
  congr 1
  funext a; apply Fin.ext
  show 0 * _ + 1 * (y a).val = (y a).val
  omega
theorem before7 (c : Dev nD) (d) : (dat V c).before 7 t1_0 d = V c main_v6 := by
  unfold Dat.before; rw [if_pos (by decide)]
  funext y
  show V c main_v6 (((cfg1.win 7).blk t1_0).view.emb y) = V c main_v6 y
  congr 1
  funext a; apply Fin.ext
  show 0 * _ + 1 * (y a).val = (y a).val
  omega

/-- The result's array after the call holds the network's output. -/
theorem arr_out (c : Dev nD) : (dat V c).arrAt 8 cfg1.N = headAt V c := by
  refine (dat V c).arrAt_eq_of_covers 8 _ (by decide +kernel) fun t _ y => ?_
  obtain rfl := fin_N1 t
  show headAt V c _ = headAt V c (((cfg1.win 8).blk t1_0).view.emb y)
  congr 1
  funext a; apply Fin.ext
  show (y a).val = 0 * _ + 1 * (y a).val
  omega

abbrev pdats : (p : Fin 1) → (c : Dev nD) → Dat τ (Elt F) (HIx 1) ℕ UU ℕ (Pipeline.pin (pcfgs (F := F)) (fun p => (cfgs p).toPCfg_adm) p) c
  | ⟨0, _⟩ => fun c => dat V c

/-- The body keeps its promise to the pipeline. -/
theorem body_obligation (c : Dev nD) : BodyObligation (dat V c) (defs₀ (F := F)) 𝒱₀ (none : HIx 1) Set.univ := fun t => by
  obtain rfl := fin_N1 t
  rw [bigSep_W1, bigSep_W1]
  simp only [owns_whole_eq]
  rw [show (dat V c).Φ t1_0.castSucc = Pipeline.scopedRest (Ix := HIx 1) (Name := ℕ) (U := UU) (Lvl := ℕ) (Val := Elt F) spec1 c from rfl,
    show (dat V c).Φ t1_0.succ = Pipeline.scopedRest (Ix := HIx 1) (Name := ℕ) (U := UU) (Lvl := ℕ) (Val := Elt F) spec1 c from rfl,
    show (dat V c).owesAt none t1_0.succ = (dat V c).owesAt none t1_0.castSucc from rfl]
  iintro ⟨HΦ, Howes, ⟨%d0, %f0, %hf0, H0⟩, ⟨%d1, %f1, %hf1, H1⟩, ⟨%d2, %f2, %hf2, H2⟩, ⟨%d3, %f3, %hf3, H3⟩, ⟨%d4, %f4, %hf4, H4⟩, ⟨%d5, %f5, %hf5, H5⟩, ⟨%d6, %f6, %hf6, H6⟩, ⟨%d7, %f7, %hf7, H7⟩, ⟨%d8, %f8, -, H8⟩⟩
  rw [before0] at hf0
  rw [before1] at hf1
  rw [before2] at hf2
  rw [before3] at hf3
  rw [before4] at hf4
  rw [before5] at hf5
  rw [before6] at hf6
  rw [before7] at hf7
  subst hf0 hf1 hf2 hf3 hf4 hf5 hf6 hf7
  iapply (body_run c (V c main_v1) (V c main_v3) (V c main_arg2) (V c main_v4) (V c main_arg4) (V c main_v5) (V c main_arg6) (V c main_v6) f8 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro ⟨H0, H1, H2, H3, H4, H5, H6, H7, H8⟩
  isplitl [HΦ]; · iexact HΦ
  isplitl [Howes]; · iexact Howes
  isplitl [H0]; · iexists _; isplitr; swap; (· iexact H0); ipureintro; dsimp only [dat]
  isplitl [H1]; · iexists _; isplitr; swap; (· iexact H1); ipureintro; dsimp only [dat]
  isplitl [H2]; · iexists _; isplitr; swap; (· iexact H2); ipureintro; dsimp only [dat]
  isplitl [H3]; · iexists _; isplitr; swap; (· iexact H3); ipureintro; dsimp only [dat]
  isplitl [H4]; · iexists _; isplitr; swap; (· iexact H4); ipureintro; dsimp only [dat]
  isplitl [H5]; · iexists _; isplitr; swap; (· iexact H5); ipureintro; dsimp only [dat]
  isplitl [H6]; · iexists _; isplitr; swap; (· iexact H6); ipureintro; dsimp only [dat]
  isplitl [H7]; · iexists _; isplitr; swap; (· iexact H7); ipureintro; dsimp only [dat]
  iexists _; isplitr; swap; (· iexact H8); ipureintro; dsimp only [dat]; rfl

/-! ## The call over the thread state -/

variable (Vp : (c : Dev nD) → (b : Ref sig .tc) → Buf (Elt F) ((c : Thread nD τ).loc b))

set_option backward.isDefEq.respectTransparency.types false in
/-- The call as a segment of @main: entered with every array at `V`, left with the result's array at the network's
    output and every other array as it was. -/
def reg (hVp_out : ∀ c, Vp c main_v7 = headAt V c) (hVp_ne : ∀ c (b : Ref sig .tc), b ≠ main_v7 → Vp c b = V c b) :
    Pipeline.RegionSeg (pcfgs (F := F)) (fun p => (cfgs p).toPCfg_adm) (pdats V) (none : HIx 1) defs₀ 𝒱₀ (K (F := F)).L (K (F := F)).lev 0 where
  win := (launch1).win.to₀
  block_pos := (launch1).block_pos
  stage_whole := (launch1).stage_whole
  K := PEmpty
  osem k := k.elim
  ho := Pipeline.OwnSemFacts.none _
  hbody c := (body_obligation V c).loose
  hwaits := Pipeline.hwaits_of_owed_zero _ _ _ _ (K (F := F)).L (K (F := F)).lev 0 fun _ _ => rfl
  pre c := iprop(unscopedBufs c (V c) ∗ ∃ W, ⌜(K (F := F)).WBelow (SparseCore.T c) W (8 * Z.fst 1)⌝ ∗ owes (SparseCore.T c) (0 : CellTallies nD τ sig (HIx 1)) W)
  post c := iprop(unscopedBufs c (Vp c) ∗ ∃ W, ⌜(K (F := F)).WBelow (SparseCore.T c) W (8 * Z.fst 1)⌝ ∗ owes (SparseCore.T c) (0 : CellTallies nD τ sig (HIx 1)) W)
  X _ := BI.emp
  Y _ := BI.emp
  Z c := iprop(Pipeline.unscopedRest (Ix := HIx 1) (Name := ℕ) (U := UU) (Lvl := ℕ) spec1 c (V c))
  hentry c := by
    rw [Pipeline.ownSems0_none]
    have hsplit := Pipeline.arrays_of_unscopedBufs (p := 0) (pcfgs (F := F)) (fun p => (cfgs p).toPCfg_adm) (pdats V) (launch1).win (launch1).arr_whole c
      ((pdats V 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, %hW, HO⟩; iexists W; isplitr; · ipureintro; exact fun p hp => Or.inl (hW p hp)
      iexact HO
    isplitr; · iempintro
    iexact Hrest
  hin c := by
    rw [show (pdats V 0 c).Φ 0 = Pipeline.scopedRest (Ix := HIx 1) (Name := ℕ) (U := UU) (Lvl := ℕ) (Val := Elt F) spec1 c from rfl]
    iintro ⟨-, -, Hr⟩; iexact Hr
  hout c := by
    rw [Pipeline.ownSems0_none, show (pdats V 0 c).Φ (Fin.last _) = Pipeline.scopedRest (Ix := HIx 1) (Name := ℕ) (U := UU) (Lvl := ℕ) (Val := Elt F) spec1 c from rfl]
    iintro Hr
    isplitr; · iempintro
    isplitr; · iempintro
    iexact Hr
  hexit c := by
    have hjoin := Pipeline.unscopedBufs_of_arrays (p := 0) (pcfgs (F := F)) (fun p => (cfgs p).toPCfg_adm) (Ix := HIx 1) (Name := ℕ) (U := UU) (Lvl := ℕ) (launch1).win (launch1).arr_whole c
      (pdats V) ((pdats V 0 c).share_full fun _ => rfl) (V c) (Vp c) ((pdats V 0 c).arrAt · cfg1.N)
      (fun w => by
        fin_cases w
        · exact ((pdats V 0 c).arrAt_in 0 rfl _).trans (hVp_ne c main_v1 (by decide)).symm
        · exact ((pdats V 0 c).arrAt_in 1 rfl _).trans (hVp_ne c main_v3 (by decide)).symm
        · exact ((pdats V 0 c).arrAt_in 2 rfl _).trans (hVp_ne c main_arg2 (by decide)).symm
        · exact ((pdats V 0 c).arrAt_in 3 rfl _).trans (hVp_ne c main_v4 (by decide)).symm
        · exact ((pdats V 0 c).arrAt_in 4 rfl _).trans (hVp_ne c main_arg4 (by decide)).symm
        · exact ((pdats V 0 c).arrAt_in 5 rfl _).trans (hVp_ne c main_v5 (by decide)).symm
        · exact ((pdats V 0 c).arrAt_in 6 rfl _).trans (hVp_ne c main_arg6 (by decide)).symm
        · exact ((pdats V 0 c).arrAt_in 7 rfl _).trans (hVp_ne c main_v6 (by decide)).symm
        · exact (arr_out V c).trans (hVp_out c).symm)
      (fun b hb => hVp_ne c b fun h => hb (h ▸ Finset.mem_image.mpr ⟨8, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W; isplitr; swap; · iexact HO
    ipureintro
    intro p hp
    rcases hW hp with h | h
    · exact h
    · obtain ⟨w, s, rfl⟩ := h
      exact Nat.zero_le _

end Cert.Proof.KernelIdeal
-- ==== Proof.MainIdeal.lean ====
/-
  The whole run of the segment-sum kernel: the SparseCore call, the reshapes, the TensorCore call, and what every array
  holds at the end.
-/
module

public import proofs.«01_k».proof.Proof.RegionIdeal

@[expose] public section

noncomputable section

namespace Cert.Proof.KernelIdeal

open Cert.KernelIdeal Cert.KernelIdeal.Gen

open Idealize.ShloMosaic
open Idealize.ShloMosaic.TcCoe Idealize.ShloMosaic.Tactic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held wp_hlo_within held_congr)
open Idealize.ShloMosaic.Pipeline (ucRefs)

variable {F : FTy → Type}

local notation "𝕄" => MT nD τ sig (HIx 1) (Elt F) ℕ UU ℕ

/-! ## The launch element -/

/-- The TensorCore pipeline's rounds, the middle component. -/
def EP : Emb (UR sig nD τ) 𝕄 := (Emb.inl : Emb (UR sig nD τ) (UR sig nD τ × Counters)).trans embR
instance EP_landsIn : (EP : Emb (UR sig nD τ) 𝕄).LandsIn (upEmb : UEmb _ 𝕄) := by unfold EP; infer_instance

abbrev pinned [FloatOps F] : Fin 1 → Pipeline.Cfg sig Λ₀ := Pipeline.pin (pcfgs (F := F)) (fun p => (cfgs p).toPCfg_adm)

def u₀ [FloatOps F] : UU := (initOf (K (F := F)).hsCells (K (F := F)).hsToks, (initOf (Pipeline.cells (pinned (F := F)) cellOf_inj) (Pipeline.launchToks (pinned (F := F)) cellOf_inj), 1))

variable (m : (ℓ : Loc nD τ sig) → Buf (Elt F) ℓ) (ρ : Dev nD → PrngReg)
variable [FloatOps F]

/-- The TensorCore pipeline's ghost state on device `d`. -/
abbrev G (d : Dev nD) : sProp 𝕄 := iprop(Pipeline.cellsGhost (pinned (F := F)) EP 0 d ∗ Pipeline.toksInit (pinned (F := F)) EP 0 d)

theorem hu₀ : (ownU (u₀ (F := F)) : sProp 𝕄)
    ⊢ |={Set.univ}=> iprop(BI.own (EH (initOf (K (F := F)).hsCells (K (F := F)).hsToks)) ∗ (bigSep Finset.univ fun d : Dev nD => G (F := F) d)
        ∗ bigSep Finset.univ fun thr : Thread nD τ => bigSep Finset.univ fun q : Fin 1 => (P m).x q thr) := by
  unfold u₀
  iintro Hu
  ihave H := (ownU_pair (initOf (K (F := F)).hsCells (K (F := F)).hsToks) ((initOf (Pipeline.cells (pinned (F := F)) cellOf_inj) (Pipeline.launchToks (pinned (F := F)) cellOf_inj), 1) : UR sig nD τ × Counters)) $$ Hu
  icases H with ⟨HH, HR⟩
  ihave H' := (show (BI.own ((embR : Emb (UR sig nD τ × Counters) 𝕄) (initOf (Pipeline.cells (pinned (F := F)) cellOf_inj) (Pipeline.launchToks (pinned (F := F)) cellOf_inj), 1)) : sProp 𝕄)
      ⊢ iprop(BI.own (EP (initOf (Pipeline.cells (pinned (F := F)) cellOf_inj) (Pipeline.launchToks (pinned (F := F)) cellOf_inj)))
        ∗ BI.own (((Emb.inr : Emb Counters (UR sig nD τ × Counters)).trans embR) 1)) from own_pair_emb _ _ _) $$ HR
  icases H' with ⟨HP, -⟩
  imod (Pipeline.fund_ghost (pinned (F := F)) EP cellOf_inj) $$ HP with ⟨Hg, Ht⟩
  imodintro
  isplitl [HH]; · iexact HH
  isplitl [Hg Ht]
  · rw [bigSep_sep']
    isplitl [Hg]
    · ihave Hg' := (Entails.of_eq (show (bigSep Finset.univ fun d : Dev nD => bigSep Finset.univ fun p => Pipeline.cellsGhost (pinned (F := F)) (EP (F := F)) p d) = bigSep Finset.univ fun d : Dev nD => Pipeline.cellsGhost (pinned (F := F)) EP 0 d from
        bigSep_congr fun _ _ => bigSep_univ_of_subsingleton (0 : Fin 1))) $$ Hg
      iexact Hg'
    · ihave Ht' := (Entails.of_eq (show (bigSep Finset.univ fun d : Dev nD => bigSep Finset.univ fun p => (Pipeline.toksInit (pinned (F := F)) (EP (F := F)) p d : sProp 𝕄)) = bigSep Finset.univ fun d : Dev nD => Pipeline.toksInit (pinned (F := F)) EP 0 d from
        bigSep_congr fun _ _ => bigSep_univ_of_subsingleton (0 : Fin 1))) $$ Ht
      iexact Ht'
  rw [show (bigSep Finset.univ fun thr : Thread nD τ => bigSep Finset.univ fun q : Fin 1 => (P (F := F) m).x q thr) = (iprop(emp) : sProp 𝕄) from
    (bigSep_congr fun _ _ => bigSep_univ_of_subsingleton (0 : Fin 1)).trans (bigSep_emp_const _)]
  iempintro

/-! ## The arrays along @main -/

abbrev dr (r : Ref sig .tc) : DevRef τ sig := Proc.devRef .tc r

abbrev op1 : HloOp τ sig (Elt F) := StableHlo.reshape main_v0 main_v1 (rfl : (.f32 : EltTy) = .f32) shapeCasts_S32x512_S16x2x512
abbrev op2 : HloOp τ sig (Elt F) := StableHlo.unary main_arg8 main_v2 (sitofp .f32 : (⟨S16, .i32⟩ : BufTy).Contents (Elt F) → (⟨S16, .f32⟩ : BufTy).Contents (Elt F))
abbrev op3 : HloOp τ sig (Elt F) := StableHlo.reshape main_v2 main_v3 (rfl : (.f32 : EltTy) = .f32) shapeCasts_S16_S16x1
abbrev op4 : HloOp τ sig (Elt F) := StableHlo.reshape main_arg3 main_v4 (rfl : (.f32 : EltTy) = .f32) shapeCasts_S256_S1x256
abbrev op5 : HloOp τ sig (Elt F) := StableHlo.reshape main_arg5 main_v5 (rfl : (.f32 : EltTy) = .f32) shapeCasts_S256_S1x256
abbrev op6 : HloOp τ sig (Elt F) := StableHlo.reshape main_arg7 main_v6 (rfl : (.f32 : EltTy) = .f32) shapeCasts_S1_S1x1
abbrev op8 : HloOp τ sig (Elt F) := StableHlo.reshape main_v7 main_v8 (rfl : (.f32 : EltTy) = .f32) shapeCasts_S16x1_S16

/-- At launch; after the SparseCore call; after each reshape or conversion; after the TensorCore call; at the end. -/
def V0 (d : Dev nD) : Valuation τ sig (Elt F) := fun b => m (d, b)
def V1 (d : Dev nD) : Valuation τ sig (Elt F) := Function.update (V0 m d) (dr main_v0) (psum m d)
def V2 (d : Dev nD) : Valuation τ sig (Elt F) := (op1 (F := F)).result (V1 m d)
def V3 (d : Dev nD) : Valuation τ sig (Elt F) := (op2 (F := F)).result (V2 m d)
def V4 (d : Dev nD) : Valuation τ sig (Elt F) := (op3 (F := F)).result (V3 m d)
def V5 (d : Dev nD) : Valuation τ sig (Elt F) := (op4 (F := F)).result (V4 m d)
def V6 (d : Dev nD) : Valuation τ sig (Elt F) := (op5 (F := F)).result (V5 m d)
def V7 (d : Dev nD) : Valuation τ sig (Elt F) := (op6 (F := F)).result (V6 m d)
def V8 (d : Dev nD) : Valuation τ sig (Elt F) := Function.update (V7 m d) (dr main_v7) (headAt (fun c b => V7 m c b) d)
def V9 (d : Dev nD) : Valuation τ sig (Elt F) := (op8 (F := F)).result (V8 m d)

theorem sub_uc (op : HloOp τ sig (Elt F)) (h : op.bufs ⊆ StableHlo.tcRefs τ sig) : op.bufs ⊆ ucRefs τ sig := Pipeline.sub_ucRefs op h

/-- The three arrays of the SparseCore call, out of all the arrays. -/
theorem held_three (d : Dev nD) (W : Valuation τ sig (Elt F)) :
    (held (T d) (ucRefs τ sig) W : sProp 𝕄)
      = iprop((xLoc d ↦{fullShare} W (dr main_arg0)) ∗ (yLoc d ↦{fullShare} W (dr main_arg1)) ∗ (oLoc d ↦{fullShare} W (dr main_v0))
          ∗ held (T d) ((((ucRefs τ sig).erase (dr main_arg0)).erase (dr main_arg1)).erase (dr main_v0)) W) := by
  unfold held
  rw [SparseCore.bigSep_erase' (i := dr main_arg0) (by decide), SparseCore.bigSep_erase' (i := dr main_arg1) (by decide), SparseCore.bigSep_erase' (i := dr main_v0) (by decide)]

theorem rest_V1 (d : Dev nD) :
    (held (T d) ((((ucRefs τ sig).erase (dr main_arg0)).erase (dr main_arg1)).erase (dr main_v0)) (V1 m d) : sProp 𝕄)
      = held (T d) ((((ucRefs τ sig).erase (dr main_arg0)).erase (dr main_arg1)).erase (dr main_v0)) (V0 m d) :=
  held_congr _ fun b hb => Function.update_of_ne (Finset.ne_of_mem_erase hb) _ _

theorem V1_three (d : Dev nD) : V1 m d (dr main_arg0) = m (xLoc d) ∧ V1 m d (dr main_arg1) = m (yLoc d) ∧ V1 m d (dr main_v0) = psum m d :=
  ⟨Function.update_of_ne (by decide) _ _, Function.update_of_ne (by decide) _ _, Function.update_self _ _ _⟩

/-- What @main leaves: every array, at its final contents. -/
abbrev FIN (d : Dev nD) : sProp 𝕄 := held (T d) (ucRefs τ sig) (V9 m d)

abbrev owesT (d : Dev nD) : sProp 𝕄 :=
  iprop(∃ W, ⌜(K (F := F)).WBelow (SparseCore.T d) W (8 * Z.fst 1)⌝ ∗ owes (SparseCore.T d) (0 : CellTallies nD τ sig (HIx 1)) W)

/-- The TensorCore call's segment: entered with every array at `V7`, left with every array at `V8`. -/
abbrev headSeg [∀ e, Nonempty (Elt F e)] := reg (F := F) (fun c b => V7 m c b) (fun c b => V8 m c b) (fun c => Function.update_self _ _ _)
      (fun c b hb => Function.update_of_ne (fun e => hb (Proc.devRef_injective _ e)) _ _)

theorem headSeg_pre [∀ e, Nonempty (Elt F e)] (d : Dev nD) :
    (headSeg m).pre d = iprop((unscopedBufs d (fun b => V7 m d b) : sProp 𝕄) ∗ owesT (F := F) d) := rfl
theorem headSeg_post [∀ e, Nonempty (Elt F e)] (d : Dev nD) :
    (headSeg m).post d = iprop((unscopedBufs d (fun b => V8 m d b) : sProp 𝕄) ∗ owesT (F := F) d) := rfl

/-- The TensorCore call, from every array held at `V7` to every array held at `V8`. -/
theorem wp_head [∀ e, Nonempty (Elt F e)] (d : Dev nD) (Φ : PUnit → sProp 𝕄) :
    iprop(boundary (T d) ∗ held (T d) (ucRefs τ sig) (V7 m d) ∗ owesT (F := F) d ∗ levAts (K (F := F)).L (K (F := F)).lev ∗ G (F := F) d
        ∗ (iprop(boundary (T d) ∗ held (T d) (ucRefs τ sig) (V8 m d) ∗ owesT (F := F) d) -∗ Φ ⟨⟩))
      ⊢ wp frame (wpE ((K (F := F)).defs (D (F := F))) 𝒱 (T d) none) Set.univ (Prog.lift (.customCall (SparseCore.inner (Pipeline.entry 0)) ())) Φ := by
  have hlift := (K (F := F)).wp_liftProg (D (F := F)) 𝒱 (T d) Set.univ none (.op (.customCall (Pipeline.entry 0) ()) .ret : Prog (TpuEff nD τ sig (Elt F) (ΛP (F := F)) .tc) PUnit) Φ
  have hreg := Pipeline.RegionSeg.wp (pcfgs (F := F)) (fun p => (cfgs p).toPCfg_adm) (pdats fun c b => V7 m c b) (none : HIx 1) cellOf_inj EP defs₀ 𝒱₀ (K (F := F)).L (K (F := F)).lev
    (headSeg m) d none (fun u hu => nomatch hu) .ret Φ
  iintro ⟨Hb, Hh, HO, Hl, ⟨Hg, Ht⟩, Hk⟩
  iapply (show _ ⊢ _ from hlift)
  iapply (show _ ⊢ _ from hreg)
  isplitl [Hk]
  · iintro ⟨Hb, Hpost⟩
    rw [wp_ret]; imodintro
    iapply Hk
    isplitl [Hb]; · iexact Hb
    ihave Hpost' := (Entails.of_eq (headSeg_post m d)) $$ Hpost
    icases Hpost' with ⟨Hub, HO⟩
    isplitl [Hub]
    · iapply (Entails.of_eq (Pipeline.unscopedBufs_held d (V8 m d))); iexact Hub
    iexact HO
  isplitl [Hb]; · iexact Hb
  isplitl [Hh HO]
  · iapply (Entails.of_eq (headSeg_pre m d).symm)
    isplitl [Hh]
    · iapply (Entails.of_eq (Pipeline.unscopedBufs_held d (V7 m d)).symm); iexact Hh
    iexact HO
  isplitl [Hl]; · iexact Hl
  isplitl [Hg]; · iexact Hg
  iexact Ht

/-- One host operation of @main over every array held. -/
theorem wp_host (d : Dev nD) (op : HloOp τ sig (Elt F)) (h : op.bufs ⊆ StableHlo.tcRefs τ sig) (hf : op.fresh = ∅) (W : Valuation τ sig (Elt F)) (Φ : PUnit → sProp 𝕄) :
    iprop((boundary (T d) ∗ held (T d) (ucRefs τ sig) W) ∗ (iprop(boundary (T d) ∗ held (T d) (ucRefs τ sig) (op.result W)) -∗ Φ ⟨⟩))
      ⊢ wp frame (wpE ((K (F := F)).defs (D (F := F))) 𝒱 (T d) none) Set.univ (hlo rfl op (fun _ => .ret ⟨⟩)) Φ := by
  iintro ⟨H, Hk⟩
  iapply (wp_hlo_within 𝒱 (SparseCore.T d) none Set.univ (op := op) (S := ucRefs τ sig) (sub_uc op h) (V := W) (hf := hf)) $$ [H]
  · iexact H
  iintro H
  rw [wp_ret]; imodintro
  iapply Hk; iexact H

/-- The TensorCore's state after the one call: what it owes (nothing) apart, and the rest. -/
theorem tcSt_one (d : Dev nD) : ∃ R : sProp 𝕄, (K (F := F)).tcSt EH d 1 = iprop(owesT (F := F) d ∗ R) := by
  unfold SparseCore.Cfg.tcSt
  rw [(K (F := F)).Otc_end d (le_refl 1)]
  exact ⟨_, rfl⟩

/-- The TensorCore's program: the SparseCore call, the conversions, the TensorCore call and the last reshape, leaving every array at `V9`. -/
theorem hmain [∀ e, Nonempty (Elt F e)] (κ : GSem nD τ sig → ℕ) (d : Dev nD) :
    iprop((K (F := F)).ctx EH (P m) κ ∗ (K (F := F)).tcSt EH d 0 ∗ (K (F := F)).tcRes m ρ d ∗ G (F := F) d)
      ⊢ wp frame (wpE ((K (F := F)).defs (D (F := F))) 𝒱 (SparseCore.T d) none) Set.univ (main d) fun _ => iprop((K (F := F)).tcSt EH d 1 ∗ FIN m d ∗ (K (F := F)).tcEnd d) := by
  unfold SparseCore.Cfg.tcRes SparseCore.Cfg.tcEnd
  rw [show (unscopedBufs d (fun b => m ((SparseCore.T d).loc b)) : sProp 𝕄) = held (T d) (ucRefs τ sig) (V0 m d) from Pipeline.unscopedBufs_held d (V0 m d)]
  simp only [main, wp_bind, wp_pure]
  iintro ⟨#Hctx, Hst, ⟨Hb, Hheld, Hts, -⟩, HG⟩
  ihave H := (Entails.of_eq (held_three d (V0 m d))) $$ Hheld
  icases H with ⟨Hx, Hy, Ho, Hrest⟩
  iapply ((K (F := F)).wp_run (D (F := F)) 𝒱 (EH := EH) (P := P m) κ d 0) $$ [Hst Hx Hy Ho Hrest Hb Hts HG]
  isplitr; · iexact Hctx
  isplitl [Hst]; · iexact Hst
  isplitl [Hx Hy Ho]
  · rw [st0_eq]
    isplitl [Hx]; · iexact Hx
    isplitl [Hy]; · iexact Hy
    iexact Ho
  iintro ⟨Hst, Hdn⟩
  ihave Hdn' := (Entails.of_eq (dn0_eq m d)) $$ Hdn
  icases Hdn' with ⟨Hx, Hy, Ho⟩
  ihave Hheld := (show iprop(xPts m fullShare d ∗ yPts m fullShare d ∗ (oLoc d ↦{fullShare} psum m d)
      ∗ held (T d) ((((ucRefs τ sig).erase (dr main_arg0)).erase (dr main_arg1)).erase (dr main_v0)) (V0 m d)) ⊢ (held (T d) (ucRefs τ sig) (V1 m d) : sProp 𝕄) from
      Entails.of_eq (by rw [held_three d (V1 m d), (V1_three m d).1, (V1_three m d).2.1, (V1_three m d).2.2, rest_V1])) $$ [Hx Hy Ho Hrest]
  · isplitl [Hx]; · iexact Hx
    isplitl [Hy]; · iexact Hy
    isplitl [Ho]; · iexact Ho
    iexact Hrest
  iapply (wp_host d op1 (show ({dr main_v0} ∪ {dr main_v1} : Finset (DevRef τ sig)) ⊆ StableHlo.tcRefs τ sig by decide) rfl (V1 m d))
  isplitl [Hb Hheld]
  · isplitl [Hb]; · iexact Hb
    iexact Hheld
  iintro ⟨Hb, Hheld⟩
  iapply (wp_host d op2 (show ({dr main_arg8} ∪ {dr main_v2} : Finset (DevRef τ sig)) ⊆ StableHlo.tcRefs τ sig by decide) rfl (V2 m d))
  isplitl [Hb Hheld]
  · isplitl [Hb]; · iexact Hb
    iexact Hheld
  iintro ⟨Hb, Hheld⟩
  iapply (wp_host d op3 (show ({dr main_v2} ∪ {dr main_v3} : Finset (DevRef τ sig)) ⊆ StableHlo.tcRefs τ sig by decide) rfl (V3 m d))
  isplitl [Hb Hheld]
  · isplitl [Hb]; · iexact Hb
    iexact Hheld
  iintro ⟨Hb, Hheld⟩
  iapply (wp_host d op4 (show ({dr main_arg3} ∪ {dr main_v4} : Finset (DevRef τ sig)) ⊆ StableHlo.tcRefs τ sig by decide) rfl (V4 m d))
  isplitl [Hb Hheld]
  · isplitl [Hb]; · iexact Hb
    iexact Hheld
  iintro ⟨Hb, Hheld⟩
  iapply (wp_host d op5 (show ({dr main_arg5} ∪ {dr main_v5} : Finset (DevRef τ sig)) ⊆ StableHlo.tcRefs τ sig by decide) rfl (V5 m d))
  isplitl [Hb Hheld]
  · isplitl [Hb]; · iexact Hb
    iexact Hheld
  iintro ⟨Hb, Hheld⟩
  iapply (wp_host d op6 (show ({dr main_arg7} ∪ {dr main_v6} : Finset (DevRef τ sig)) ⊆ StableHlo.tcRefs τ sig by decide) rfl (V6 m d))
  isplitl [Hb Hheld]
  · isplitl [Hb]; · iexact Hb
    iexact Hheld
  iintro ⟨Hb, Hheld⟩
  ihave Hlev := (SparseCore.Cfg.ctx_levAts κ) $$ Hctx
  obtain ⟨R, hR⟩ := tcSt_one (F := F) d
  ihave Hst' := (show (K (F := F)).tcSt EH d ((0 : Fin 1).val + 1) ⊢ iprop(owesT (F := F) d ∗ R) from Entails.of_eq hR) $$ Hst
  icases Hst' with ⟨HO, Hst⟩
  iapply (wp_head m d)
  isplitl [Hb]; · iexact Hb
  isplitl [Hheld]; · iexact Hheld
  isplitl [HO]; · iexact HO
  isplitl [Hlev]; · iexact Hlev
  isplitl [HG]; · iexact HG
  iintro ⟨Hb, Hheld, HO⟩
  iapply (wp_host d op8 (show ({dr main_v7} ∪ {dr main_v8} : Finset (DevRef τ sig)) ⊆ StableHlo.tcRefs τ sig by decide) rfl (V8 m d))
  isplitl [Hb Hheld]
  · isplitl [Hb]; · iexact Hb
    iexact Hheld
  iintro ⟨Hb, Hheld⟩
  imodintro
  isplitl [HO Hst]
  · iapply (Entails.of_eq hR.symm)
    isplitl [HO] <;> iassumption
  isplitl [Hheld]; · iexact Hheld
  isplitl [Hb] <;> iassumption

/-- What the claims read of device `d`'s final state: every array of the program at its final contents. -/
def fq (d : Dev nD) (s' : Phys nD τ sig (Elt F)) : Prop := ∀ b ∈ ucRefs τ sig, s'.mem.mem (d, b) = V9 m d b

theorem hfin (d : Dev nD) (s' : Phys nD τ sig (Elt F)) : iprop(FIN m d ∗ SI s') ⊢ (⌜fq m d s'⌝ : sProp 𝕄) := by
  iintro ⟨H, HSI⟩
  iapply (SI_pointsTo_bufs_agree (c := d) (F := V9 m d) (st := s') (qs := fun _ => fullShare) (ucRefs τ sig))
  isplitl [HSI]; · iexact HSI
  iapply (show (FIN m d : sProp 𝕄) ⊢ bigSep (ucRefs τ sig) (fun b => (d, b) ↦{fullShare} V9 m d b) from Entails.of_eq rfl); iexact H

/-! ## The program's run -/

def QC : PUnit × MemSt nD τ sig (Elt F) → Prop := fun r => (∀ c : Dev nD, ∀ b ∈ ucRefs τ sig, r.2.mem (c, b) = V9 m c b) ∧ r.2.sem = fun _ => 0

/-- The program runs, and ends with every array at `V9` and every semaphore at rest. -/
theorem run_main [∀ e, Nonempty (Elt F e)] : θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m facts)
    (fun q _ => match q with | 0 => SparseCore.Cfg.VecSplit.of_plain (vecSplit m))
    m ρ main (fun d => G (F := F) d) (FIN m) (u₀ (F := F)) (sep_elim_left.trans (hu₀ m)) (hmain m ρ) (fq m) (hfin m) (QC m) (fun _ h hz => ⟨h, hz⟩)

/-! ## The arrays at the end, read back -/

/-- @main writes `v0` … `v8`: every other array ends as it began. -/
theorem V9_kept (d : Dev nD) (b : DevRef τ sig) (hb : b ∉ ({dr main_v0, dr main_v1, dr main_v2, dr main_v3, dr main_v4, dr main_v5, dr main_v6, dr main_v7, dr main_v8} : Finset (DevRef τ sig))) :
    V9 m d b = m (d, b) := by
  simp only [Finset.mem_insert, Finset.mem_singleton, not_or] at hb
  obtain ⟨h0, h1, h2, h3, h4, h5, h6, h7, h8⟩ := hb
  unfold V9; rw [(op8 (F := F)).result_of_not_mem _ (show b ∉ ({dr main_v8} : Finset (DevRef τ sig)) by simpa using h8)]
  unfold V8; rw [Function.update_of_ne h7]
  unfold V7; rw [(op6 (F := F)).result_of_not_mem _ (show b ∉ ({dr main_v6} : Finset (DevRef τ sig)) by simpa using h6)]
  unfold V6; rw [(op5 (F := F)).result_of_not_mem _ (show b ∉ ({dr main_v5} : Finset (DevRef τ sig)) by simpa using h5)]
  unfold V5; rw [(op4 (F := F)).result_of_not_mem _ (show b ∉ ({dr main_v4} : Finset (DevRef τ sig)) by simpa using h4)]
  unfold V4; rw [(op3 (F := F)).result_of_not_mem _ (show b ∉ ({dr main_v3} : Finset (DevRef τ sig)) by simpa using h3)]
  unfold V3; rw [(op2 (F := F)).result_of_not_mem _ (show b ∉ ({dr main_v2} : Finset (DevRef τ sig)) by simpa using h2)]
  unfold V2; rw [(op1 (F := F)).result_of_not_mem _ (show b ∉ ({dr main_v1} : Finset (DevRef τ sig)) by simpa using h1)]
  unfold V1; rw [Function.update_of_ne h0]
  rfl

/-- The result: the head over the partial sums, the segment lengths as floats and the parameters, each in the shape the call takes it in. -/
def result (d : Dev nD) : S16.Idx → F .f32 :=
  shapeCast S16 (head (F := F) (shapeCast S16x2x512 (psum m d) shapeCasts_S32x512_S16x2x512)
    (shapeCast S16x1 (sitofp (F := F) .f32 (m (d, dr main_arg8) : (⟨S16, .i32⟩ : BufTy).Contents (Elt F))) shapeCasts_S16_S16x1)
    (m (d, dr main_arg2)) (shapeCast S1x256 (m (d, dr main_arg3) : (⟨S256, .f32⟩ : BufTy).Contents (Elt F)) shapeCasts_S256_S1x256)
    (m (d, dr main_arg4)) (shapeCast S1x256 (m (d, dr main_arg5) : (⟨S256, .f32⟩ : BufTy).Contents (Elt F)) shapeCasts_S256_S1x256)
    (m (d, dr main_arg6)) (shapeCast S1x1 (m (d, dr main_arg7) : (⟨S1, .f32⟩ : BufTy).Contents (Elt F)) shapeCasts_S1_S1x1)) shapeCasts_S16x1_S16

/-- The arrays the TensorCore call reads, as it finds them. -/
theorem V7_v1 (d : Dev nD) : (V7 m d (dr main_v1) : S16x2x512.Idx → F .f32) = shapeCast S16x2x512 (psum m d) shapeCasts_S32x512_S16x2x512 := by
  unfold V7; rw [(op6 (F := F)).result_of_not_mem _ (show dr main_v1 ∉ ({dr main_v6} : Finset (DevRef τ sig)) by decide)]
  unfold V6; rw [(op5 (F := F)).result_of_not_mem _ (show dr main_v1 ∉ ({dr main_v5} : Finset (DevRef τ sig)) by decide)]
  unfold V5; rw [(op4 (F := F)).result_of_not_mem _ (show dr main_v1 ∉ ({dr main_v4} : Finset (DevRef τ sig)) by decide)]
  unfold V4; rw [(op3 (F := F)).result_of_not_mem _ (show dr main_v1 ∉ ({dr main_v3} : Finset (DevRef τ sig)) by decide)]
  unfold V3; rw [(op2 (F := F)).result_of_not_mem _ (show dr main_v1 ∉ ({dr main_v2} : Finset (DevRef τ sig)) by decide)]
  exact (StableHlo.reshape_result main_v0 main_v1 rfl shapeCasts_S32x512_S16x2x512 (by decide) (by decide) (V1 m d)).trans (by rw [(V1_three m d).2.2]; rfl)
theorem V7_v3 (d : Dev nD) : (V7 m d (dr main_v3) : S16x1.Idx → F .f32)
    = shapeCast S16x1 (sitofp (F := F) .f32 (m (d, dr main_arg8) : (⟨S16, .i32⟩ : BufTy).Contents (Elt F))) shapeCasts_S16_S16x1 := by
  unfold V7; rw [(op6 (F := F)).result_of_not_mem _ (show dr main_v3 ∉ ({dr main_v6} : Finset (DevRef τ sig)) by decide)]
  unfold V6; rw [(op5 (F := F)).result_of_not_mem _ (show dr main_v3 ∉ ({dr main_v5} : Finset (DevRef τ sig)) by decide)]
  unfold V5; rw [(op4 (F := F)).result_of_not_mem _ (show dr main_v3 ∉ ({dr main_v4} : Finset (DevRef τ sig)) by decide)]
  have h : V3 m d (dr main_v2) = (sitofp (F := F) .f32 (m (d, dr main_arg8) : (⟨S16, .i32⟩ : BufTy).Contents (Elt F))) := by
    refine (StableHlo.unary_result main_arg8 main_v2 _ (by decide) (by decide) (V2 m d)).trans ?_
    unfold V2; rw [(op1 (F := F)).result_of_not_mem _ (show dr main_arg8 ∉ ({dr main_v1} : Finset (DevRef τ sig)) by decide)]
    unfold V1; rw [Function.update_of_ne (show dr main_arg8 ≠ dr main_v0 by decide)]
    rfl
  exact (StableHlo.reshape_result main_v2 main_v3 rfl shapeCasts_S16_S16x1 (by decide) (by decide) (V3 m d)).trans (by rw [h]; rfl)
theorem V7_v4 (d : Dev nD) : (V7 m d (dr main_v4) : S1x256.Idx → F .f32) = shapeCast S1x256 (m (d, dr main_arg3) : (⟨S256, .f32⟩ : BufTy).Contents (Elt F)) shapeCasts_S256_S1x256 := by
  unfold V7; rw [(op6 (F := F)).result_of_not_mem _ (show dr main_v4 ∉ ({dr main_v6} : Finset (DevRef τ sig)) by decide)]
  unfold V6; rw [(op5 (F := F)).result_of_not_mem _ (show dr main_v4 ∉ ({dr main_v5} : Finset (DevRef τ sig)) by decide)]
  have h : V4 m d (dr main_arg3) = m (d, dr main_arg3) := by
    unfold V4; rw [(op3 (F := F)).result_of_not_mem _ (show dr main_arg3 ∉ ({dr main_v3} : Finset (DevRef τ sig)) by decide)]
    unfold V3; rw [(op2 (F := F)).result_of_not_mem _ (show dr main_arg3 ∉ ({dr main_v2} : Finset (DevRef τ sig)) by decide)]
    unfold V2; rw [(op1 (F := F)).result_of_not_mem _ (show dr main_arg3 ∉ ({dr main_v1} : Finset (DevRef τ sig)) by decide)]
    unfold V1; rw [Function.update_of_ne (show dr main_arg3 ≠ dr main_v0 by decide)]
    rfl
  exact (StableHlo.reshape_result main_arg3 main_v4 rfl shapeCasts_S256_S1x256 (by decide) (by decide) (V4 m d)).trans (by rw [h]; rfl)
theorem V7_v5 (d : Dev nD) : (V7 m d (dr main_v5) : S1x256.Idx → F .f32) = shapeCast S1x256 (m (d, dr main_arg5) : (⟨S256, .f32⟩ : BufTy).Contents (Elt F)) shapeCasts_S256_S1x256 := by
  unfold V7; rw [(op6 (F := F)).result_of_not_mem _ (show dr main_v5 ∉ ({dr main_v6} : Finset (DevRef τ sig)) by decide)]
  have h : V5 m d (dr main_arg5) = m (d, dr main_arg5) := by
    unfold V5; rw [(op4 (F := F)).result_of_not_mem _ (show dr main_arg5 ∉ ({dr main_v4} : Finset (DevRef τ sig)) by decide)]
    unfold V4; rw [(op3 (F := F)).result_of_not_mem _ (show dr main_arg5 ∉ ({dr main_v3} : Finset (DevRef τ sig)) by decide)]
    unfold V3; rw [(op2 (F := F)).result_of_not_mem _ (show dr main_arg5 ∉ ({dr main_v2} : Finset (DevRef τ sig)) by decide)]
    unfold V2; rw [(op1 (F := F)).result_of_not_mem _ (show dr main_arg5 ∉ ({dr main_v1} : Finset (DevRef τ sig)) by decide)]
    unfold V1; rw [Function.update_of_ne (show dr main_arg5 ≠ dr main_v0 by decide)]
    rfl
  exact (StableHlo.reshape_result main_arg5 main_v5 rfl shapeCasts_S256_S1x256 (by decide) (by decide) (V5 m d)).trans (by rw [h]; rfl)
theorem V7_v6 (d : Dev nD) : (V7 m d (dr main_v6) : S1x1.Idx → F .f32) = shapeCast S1x1 (m (d, dr main_arg7) : (⟨S1, .f32⟩ : BufTy).Contents (Elt F)) shapeCasts_S1_S1x1 := by

  have h : V6 m d (dr main_arg7) = m (d, dr main_arg7) := by
    unfold V6; rw [(op5 (F := F)).result_of_not_mem _ (show dr main_arg7 ∉ ({dr main_v5} : Finset (DevRef τ sig)) by decide)]
    unfold V5; rw [(op4 (F := F)).result_of_not_mem _ (show dr main_arg7 ∉ ({dr main_v4} : Finset (DevRef τ sig)) by decide)]
    unfold V4; rw [(op3 (F := F)).result_of_not_mem _ (show dr main_arg7 ∉ ({dr main_v3} : Finset (DevRef τ sig)) by decide)]
    unfold V3; rw [(op2 (F := F)).result_of_not_mem _ (show dr main_arg7 ∉ ({dr main_v2} : Finset (DevRef τ sig)) by decide)]
    unfold V2; rw [(op1 (F := F)).result_of_not_mem _ (show dr main_arg7 ∉ ({dr main_v1} : Finset (DevRef τ sig)) by decide)]
    unfold V1; rw [Function.update_of_ne (show dr main_arg7 ≠ dr main_v0 by decide)]
    rfl
  exact (StableHlo.reshape_result main_arg7 main_v6 rfl shapeCasts_S1_S1x1 (by decide) (by decide) (V6 m d)).trans (by rw [h]; rfl)
theorem V7_arg2 (d : Dev nD) : V7 m d (dr main_arg2) = m (d, dr main_arg2) := by
  unfold V7; rw [(op6 (F := F)).result_of_not_mem _ (show dr main_arg2 ∉ ({dr main_v6} : Finset (DevRef τ sig)) by decide)]
  unfold V6; rw [(op5 (F := F)).result_of_not_mem _ (show dr main_arg2 ∉ ({dr main_v5} : Finset (DevRef τ sig)) by decide)]
  unfold V5; rw [(op4 (F := F)).result_of_not_mem _ (show dr main_arg2 ∉ ({dr main_v4} : Finset (DevRef τ sig)) by decide)]
  unfold V4; rw [(op3 (F := F)).result_of_not_mem _ (show dr main_arg2 ∉ ({dr main_v3} : Finset (DevRef τ sig)) by decide)]
  unfold V3; rw [(op2 (F := F)).result_of_not_mem _ (show dr main_arg2 ∉ ({dr main_v2} : Finset (DevRef τ sig)) by decide)]
  unfold V2; rw [(op1 (F := F)).result_of_not_mem _ (show dr main_arg2 ∉ ({dr main_v1} : Finset (DevRef τ sig)) by decide)]
  unfold V1; rw [Function.update_of_ne (show dr main_arg2 ≠ dr main_v0 by decide)]
  rfl
theorem V7_arg4 (d : Dev nD) : V7 m d (dr main_arg4) = m (d, dr main_arg4) := by
  unfold V7; rw [(op6 (F := F)).result_of_not_mem _ (show dr main_arg4 ∉ ({dr main_v6} : Finset (DevRef τ sig)) by decide)]
  unfold V6; rw [(op5 (F := F)).result_of_not_mem _ (show dr main_arg4 ∉ ({dr main_v5} : Finset (DevRef τ sig)) by decide)]
  unfold V5; rw [(op4 (F := F)).result_of_not_mem _ (show dr main_arg4 ∉ ({dr main_v4} : Finset (DevRef τ sig)) by decide)]
  unfold V4; rw [(op3 (F := F)).result_of_not_mem _ (show dr main_arg4 ∉ ({dr main_v3} : Finset (DevRef τ sig)) by decide)]
  unfold V3; rw [(op2 (F := F)).result_of_not_mem _ (show dr main_arg4 ∉ ({dr main_v2} : Finset (DevRef τ sig)) by decide)]
  unfold V2; rw [(op1 (F := F)).result_of_not_mem _ (show dr main_arg4 ∉ ({dr main_v1} : Finset (DevRef τ sig)) by decide)]
  unfold V1; rw [Function.update_of_ne (show dr main_arg4 ≠ dr main_v0 by decide)]
  rfl
theorem V7_arg6 (d : Dev nD) : V7 m d (dr main_arg6) = m (d, dr main_arg6) := by
  unfold V7; rw [(op6 (F := F)).result_of_not_mem _ (show dr main_arg6 ∉ ({dr main_v6} : Finset (DevRef τ sig)) by decide)]
  unfold V6; rw [(op5 (F := F)).result_of_not_mem _ (show dr main_arg6 ∉ ({dr main_v5} : Finset (DevRef τ sig)) by decide)]
  unfold V5; rw [(op4 (F := F)).result_of_not_mem _ (show dr main_arg6 ∉ ({dr main_v4} : Finset (DevRef τ sig)) by decide)]
  unfold V4; rw [(op3 (F := F)).result_of_not_mem _ (show dr main_arg6 ∉ ({dr main_v3} : Finset (DevRef τ sig)) by decide)]
  unfold V3; rw [(op2 (F := F)).result_of_not_mem _ (show dr main_arg6 ∉ ({dr main_v2} : Finset (DevRef τ sig)) by decide)]
  unfold V2; rw [(op1 (F := F)).result_of_not_mem _ (show dr main_arg6 ∉ ({dr main_v1} : Finset (DevRef τ sig)) by decide)]
  unfold V1; rw [Function.update_of_ne (show dr main_arg6 ≠ dr main_v0 by decide)]
  rfl

/-- @main leaves the head's output, reshaped, in its result. -/
theorem V9_result (d : Dev nD) : (V9 m d (dr main_v8) : S16.Idx → F .f32) = result m d := by
  have h8 : V8 m d (dr main_v7) = headAt (fun c b => V7 m c b) d := Function.update_self _ _ _
  have h7 : headAt (fun c b => V7 m c b) d = head (F := F) (shapeCast S16x2x512 (psum m d) shapeCasts_S32x512_S16x2x512)
    (shapeCast S16x1 (sitofp (F := F) .f32 (m (d, dr main_arg8) : (⟨S16, .i32⟩ : BufTy).Contents (Elt F))) shapeCasts_S16_S16x1)
    (m (d, dr main_arg2)) (shapeCast S1x256 (m (d, dr main_arg3) : (⟨S256, .f32⟩ : BufTy).Contents (Elt F)) shapeCasts_S256_S1x256)
    (m (d, dr main_arg4)) (shapeCast S1x256 (m (d, dr main_arg5) : (⟨S256, .f32⟩ : BufTy).Contents (Elt F)) shapeCasts_S256_S1x256)
    (m (d, dr main_arg6)) (shapeCast S1x1 (m (d, dr main_arg7) : (⟨S1, .f32⟩ : BufTy).Contents (Elt F)) shapeCasts_S1_S1x1) := by
    show head (F := F) (V7 m d (dr main_v1)) (V7 m d (dr main_v3)) (V7 m d (dr main_arg2)) (V7 m d (dr main_v4)) (V7 m d (dr main_arg4)) (V7 m d (dr main_v5)) (V7 m d (dr main_arg6)) (V7 m d (dr main_v6)) = _
    rw [V7_v1, V7_v3, V7_v4, V7_v5, V7_v6, V7_arg2, V7_arg4, V7_arg6]
  unfold V9 result
  refine (StableHlo.reshape_result main_v7 main_v8 rfl shapeCasts_S16x1_S16 (by decide) (by decide) (V8 m d)).trans ?_
  rw [h8, h7]; rfl

/-- The program runs: the arguments end unchanged, every semaphore at rest, and the result array at `result`. -/
theorem run_result [∀ e, Nonempty (Elt F e)] :
    θ_run (Cert.KernelIdeal.defs (F := F)) (Cert.KernelIdeal.threads (F := F)) ⟨m, fun _ => 0, ρ⟩ (fun r => (∀ c : Dev nD,
      (r.2.mem ((c.tc : Thread nD τ).loc main_v8) : S16.Idx → F .f32) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run _ _ _).mono (fun _ ⟨h, hz⟩ => ⟨fun c => ⟨(h c (dr main_v8) (by decide)).trans (V9_result m c), ((h c (dr main_arg0) (by decide)).trans (V9_kept m c _ (by decide))), ((h c (dr main_arg1) (by decide)).trans (V9_kept m c _ (by decide))), ((h c (dr main_arg2) (by decide)).trans (V9_kept m c _ (by decide))), ((h c (dr main_arg3) (by decide)).trans (V9_kept m c _ (by decide))), ((h c (dr main_arg4) (by decide)).trans (V9_kept m c _ (by decide))), ((h c (dr main_arg5) (by decide)).trans (V9_kept m c _ (by decide))), ((h c (dr main_arg6) (by decide)).trans (V9_kept m c _ (by decide))), ((h c (dr main_arg7) (by decide)).trans (V9_kept m c _ (by decide))), ((h c (dr main_arg8) (by decide)).trans (V9_kept m c _ (by decide)))⟩, hz⟩) (run_main m ρ)

end Cert.Proof.KernelIdeal
-- ==== Proof.Frames.lean ====
/-
  The frames of the two kernels and of the reference, and the value claim brought down to one equation.
-/
module

public import proofs.«01_k».proof.Defs
public import proofs.«01_k».proof.Proof.MainIdeal
public import proofs.«01_k».proof.Proof.MainKernel
public import proofs.«01_k».proof.Proof.Gen.ReferenceIdeal
public import proofs.«01_k».proof.Proof.Gen.ReferenceIdeal.Run
public import proofs.«01_k».proof.Proof.Gen.Pre_full_segments
public import Idealize.ShloMosaic.Adequacy
public import Idealize.ShloMosaic.Init

@[expose] public section

noncomputable section

namespace Cert.Proof

open Idealize.ShloMosaic Idealize.SL.Sem

/-- The kernel at bit patterns runs, its arguments unchanged and its semaphores at rest. -/
theorem frame_kernel : Cert.quiescent_Kernel (hKernel := Cert.Kernel.Gen.facts) := fun m ρ _ =>
  (θ_run _ _ _).mono (fun _ h => ⟨fun c => (h.1 c).2, h.2⟩) (Kernel.run_result (F := Bits) m ρ)

/-- The kernel at the reals runs, its arguments unchanged and its semaphores at rest. -/
theorem frame_ideal : Cert.quiescent_KernelIdeal (hKernelIdeal := Cert.KernelIdeal.Gen.facts) := fun m ρ _ =>
  (θ_run _ _ _).mono (fun _ h => ⟨fun c => (h.1 c).2, h.2⟩) (KernelIdeal.run_result (F := Ideal) m ρ)

/-- The reference runs, its arguments unchanged; it has no semaphores. -/
theorem frame_reference : Cert.quiescent_ReferenceIdeal (hReferenceIdeal := Cert.ReferenceIdeal.Gen.facts) := fun m ρ _ =>
  (θ_run _ _ _).mono (fun r h => ⟨fun c => (h c).2, Idealize.ShloMosaic.sem_eq_zero_of_no_sems (by decide) r.2⟩)
    (Cert.ReferenceIdeal.Value.run (F := Ideal) m ρ)

/-- The value claim from its equation: on full segments and equal arguments the kernel's result is the reference's. -/
theorem algebraic_of
    (heq : ∀ (m : (ℓ : Loc Cert.KernelIdeal.nD Cert.KernelIdeal.τ Cert.KernelIdeal.sig) → Buf (Elt Ideal) ℓ)
      (m' : (ℓ : Loc Cert.ReferenceIdeal.nD Cert.ReferenceIdeal.τ Cert.ReferenceIdeal.sig) → Buf (Elt Ideal) ℓ) (c : Dev Cert.KernelIdeal.nD),
      Cert.Pre_KernelIdeal_full_segments (hPre_full_segments := Cert.Pre_full_segments.Gen.facts) m →
      (m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
        ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
        ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
        ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
        ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
        ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
        ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
        ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
        ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
      KernelIdeal.result (F := Ideal) m c = Cert.ReferenceIdeal.Value.res_main_v46 (F := Ideal) m' c) :
    Cert.algebraic_KernelIdeal_ReferenceIdeal_pre_full_segments (hKernelIdeal := Cert.KernelIdeal.Gen.facts) (hReferenceIdeal := Cert.ReferenceIdeal.Gen.facts)
      (hPre_full_segments := Cert.Pre_full_segments.Gen.facts) := fun m ρ m' ρ' hpre hag =>
  ⟨fun c => KernelIdeal.result (F := Ideal) m c, (θ_run _ _ _).mono (fun _ h c => h.1 c) (KernelIdeal.run_result (F := Ideal) m ρ),
    (θ_run _ _ _).mono (fun _ h c => ⟨(h c).1.trans (heq m m' c hpre (hag c)).symm, (h c).2⟩) (Cert.ReferenceIdeal.Value.run (F := Ideal) m' ρ')⟩

end Cert.Proof

end
-- ==== Proof.SegIds.lean ====
/-
  The segment number of every row, as the reference computes it from the segments' lengths: when all sixteen lengths are 2048,
  row `r` lies in segment `r / 2048`.
-/
module

public import proofs.«01_k».proof.Proof.Gen.ReferenceIdeal
public import Idealize.ShloMosaic.Lib.Routing.OpsPair
public import Idealize.ShloMosaic.Lib.Routing.OpsSet
public import Idealize.ShloMosaic.Lib.Routing.OpsOne
public import Idealize.ShloMosaic.Lib.ReduceAll
public import Idealize.ShloMosaic.Lib.Pointwise.SelectCore

@[expose] public section

noncomputable section

namespace Cert.Proof.Segments

open Idealize.ShloMosaic hiding ix1 ix2 ix3 eq_ix1 eq_ix2 eq_ix3
open Cert.ReferenceIdeal Cert.ReferenceIdeal.Gen Idealize.ShloMosaic.ValueIdx Idealize.ShloMosaic.Routing

/-! ## The reference's terms, named -/

/-- The lengths moved one place on, the first set to zero. -/
def shifted (a : IVec S16 32) : IVec S16 32 :=
  Host.scatter scatter_S16_S1_S__n_0_0_0 (fun _ b => b)
    (concatenate S16 0 [⟨S1, (extractStridedSlice S1 ![15] a slices_S16_S1_15)⟩, ⟨S15, (extractStridedSlice S15 ![0] a slices_S16_S15_0)⟩] concatenates_S1_S15_S16_d0)
    (broadcastInDim S1 ![] bcast_S_S1 (constantI S_ 32 0#32)) (constantI S_ 32 0#32)

/-- Their running sum: where each segment starts. -/
def starts (a : IVec S16 32) : IVec S16 32 :=
  Host.reduceWindow IntOp.addi ![16] ![1] ![15] ![0] (shifted a) (broadcastInDim S_ ![] bcast_S_S_ (constantI S_ 32 0#32)) reduceWindows_S16_S16_w16s1p15_0 h_S_

/-- The starts, a negative one counted from the end. -/
def wrapped (a : IVec S16 32) : IVec S16 32 :=
  select (cmpi .slt (starts a) (broadcastInDim S16 ![] bcast_S_S16 (constantI S_ 32 0#32)))
    (addi (starts a) (broadcastInDim S16 ![] bcast_S_S16 (constantI S_ 32 32768#32))) (starts a)

/-- One mark at each start, over all rows. -/
def marks (a : IVec S16 32) : IVec S32768 32 :=
  Host.scatter scatter_S32768_S16x1_S16_n_0_0_1 IntOp.addi (broadcastInDim S32768 ![] bcast_S_S32768 (constantI S_ 32 0#32))
    (broadcastInDim S16x1 ![0] bcast_S16_S16x1_0 (wrapped a)) (broadcastInDim S16 ![] bcast_S_S16 (constantI S_ 32 1#32))

/-- How many starts lie at or before a row, less one. -/
def ranks (a : IVec S16 32) : IVec S32768 32 :=
  subi (Host.reduceWindow IntOp.addi ![32768] ![1] ![32767] ![0] (marks a) (broadcastInDim S_ ![] bcast_S_S_ (constantI S_ 32 0#32)) reduceWindows_S32768_S32768_w32768s1p32767_0 h_S_)
    (broadcastInDim S32768 ![] bcast_S_S32768 (constantI S_ 32 1#32))

/-- The ranks as a column of positions in the table of segment numbers. -/
def places (a : IVec S16 32) : IVec S32768x1 32 :=
  broadcastInDim S32768x1 ![0] bcast_S32768_S32768x1_0
    (select (cmpi .slt (ranks a) (broadcastInDim S32768 ![] bcast_S_S32768 (constantI S_ 32 0#32)))
      (addi (ranks a) (broadcastInDim S32768 ![] bcast_S_S32768 (constantI S_ 32 16#32))) (ranks a))

/-- Where a place lies inside the table. -/
def inside (a : IVec S16 32) : IVec S32768 1 :=
  Host.reduce IntOp.andi
    (andi (cmpi .sge (places a) (broadcastInDim S32768x1 ![] bcast_S_S32768x1 (constantI S_ 32 0#32)))
      (cmpi .sle (places a) (broadcastInDim S32768x1 ![0, 1] bcast_S1x1_S32768x1_0_1 (broadcastInDim S1x1 ![1] bcast_S1_S1x1_1 (constantI S1 32 15#32)))))
    (constantI S_ 1 1#1) reducesTo_S32768x1_S32768_d1 h_S_

/-- The segment number of every row. -/
def ids (a : IVec S16 32) : IVec S32768 32 :=
  select (inside a) (Host.gather gather_S16_S32768x1_S32768_n_0_n_n_0_1_1 (iotaInDim S16 32 0) (places a))
    (broadcastInDim S32768 ![] bcast_S_S32768 (constantI S_ 32 2147483648#32))

/-! ## Sums of naturals -/

/-- A length before the first segment counts nothing, every other one 2048. -/
def gap (i : ℕ) : ℕ := if i = 0 then 0 else 2048

/-- The gaps up to `j` add up to `2048 j`. -/
theorem sum_gap (j : ℕ) : ((List.range (j + 1)).map gap).sum = 2048 * j := by
  induction j with
  | zero => rfl
  | succ j ih => rw [List.range_succ, List.map_append, List.sum_append, ih]; simp [gap]; omega

/-- One at a multiple of 2048. -/
def mark (x : ℕ) : ℕ := if 2048 ∣ x then 1 else 0

/-- The multiples of 2048 up to `j` number `j / 2048 + 1`. -/
theorem sum_mark (j : ℕ) : ((List.range (j + 1)).map mark).sum = j / 2048 + 1 := by
  induction j with
  | zero => rfl
  | succ j ih =>
    rw [List.range_succ, List.map_append, List.sum_append, ih]
    simp only [mark, List.map_cons, List.map_nil, List.sum_cons, List.sum_nil]
    split <;> omega

/-- Among the sixteen starts, as many equal `x` as `mark x` says. -/
theorem count_starts (x : ℕ) (hx : x < 32768) : Nat.count (fun i => 2048 * i = x) 16 = mark x := by
  rw [Nat.count_eq_card_filter_range]
  by_cases h : 2048 ∣ x
  · have e : (Finset.range 16).filter (fun i => 2048 * i = x) = {x / 2048} := by
      ext i; simp only [Finset.mem_filter, Finset.mem_range, Finset.mem_singleton]; omega
    rw [e, mark, if_pos h]; rfl
  · have e : (Finset.range 16).filter (fun i => 2048 * i = x) = ∅ :=
      Finset.filter_false_of_mem fun i _ e => h ⟨i, e.symm⟩
    rw [e, mark, if_neg h]; rfl

/-- A fold that adds one at each hit adds the number of hits. -/
theorem fold_hits {ι : Type} (l : List ι) (p : ι → Prop) [DecidablePred p] (n : ℕ) :
    l.foldl (fun a i => if p i then IntOp.addi a 1#32 else a) (BitVec.ofNat 32 n) = BitVec.ofNat 32 (n + l.countP (fun i => decide (p i))) := by
  induction l generalizing n with
  | nil => rfl
  | cons i l ih =>
    rw [List.foldl_cons, List.countP_cons]
    by_cases h : p i
    · have e : IntOp.addi (BitVec.ofNat 32 n) 1#32 = BitVec.ofNat 32 (n + 1) := (BitVec.ofNat_add n 1).symm
      rw [if_pos h, e, ih, if_pos (decide_eq_true h)]; congr 1; omega
    · rw [if_neg h, ih, if_neg (by simpa using h)]; rfl

/-! ## The terms at full segments -/

/-- Sixteen lengths of 2048. -/
abbrev full : IVec S16 32 := fun _ => 2048#32

/-- The shifted lengths at position `i`. -/
theorem shifted_full (i : Fin 16) : shifted full (ix1 i) = BitVec.ofNat 32 (gap i.val) := by
  unfold shifted
  rw [scatter_one scatter_S16_S1_S__n_0_0_0 rfl rfl _ _ _ (0 : Fin 16) (by decide) rfl i]
  unfold gap
  by_cases h : i = 0
  · rw [if_pos h, if_pos (show i.val = 0 from congrArg Fin.val h)]; rfl
  · rw [if_neg h, if_neg fun e : i.val = 0 => h (Fin.ext e)]
    refine concatenate_forall (P := fun w => w = 2048#32) S16 0 _ _ (fun p hp j => ?_) _
    rcases List.mem_cons.1 hp with rfl | hp
    · rfl
    · obtain rfl := List.mem_singleton.1 hp
      rfl

/-- Segment `i` starts at row `2048 i`. -/
theorem starts_full (i : Fin 16) : starts full (ix1 i) = BitVec.ofNat 32 (2048 * i.val) := by
  unfold starts
  exact (cumsum1 (N := 16) (Nm1 := 15) rfl _ gap shifted_full _ rfl _ _ i).trans (congrArg _ (sum_gap i.val))

/-- A word holding a small natural is not negative: the wrap leaves it. -/
theorem wrap_small (n : ℕ) (hn : n < 2 ^ 31) (b : BitVec 32) :
    Scalar.select (IntOp.cmpi .slt (BitVec.ofNat 32 n) 0#32) b (BitVec.ofNat 32 n) = BitVec.ofNat 32 n :=
  wrap_of_lt _ _ (by rw [BitVec.toNat_ofNat]; omega)

/-- No start is negative. -/
theorem wrapped_full (i : Fin 16) : wrapped full (ix1 i) = BitVec.ofNat 32 (2048 * i.val) := by
  show Scalar.select (IntOp.cmpi .slt (starts full (ix1 i)) 0#32) _ (starts full (ix1 i)) = _
  rw [starts_full]
  exact wrap_small _ (by have := i.isLt; omega) _

/-- The mark of start `i` falls on row `x` exactly when its index word is `x`. -/
theorem mark_lands (idx : IVec S16x1 32) (i : Fin 16) (x : Fin 32768) :
    scatter_S32768_S16x1_S16_n_0_0_1.resultIdx? (ix1 i) idx = some (ix1 x) ↔ (idx (ix2 i (0 : Fin 1))).toInt = (x.val : Int) := by
  have hw : scatter_S32768_S16x1_S16_n_0_0_1.window (ix1 i) 0 = 0 := rfl
  have hc : ∀ c, scatter_S32768_S16x1_S16_n_0_0_1.siIdx (ix1 i) c = ix2 i (0 : Fin 1) := fun c => by
    funext b
    match b with
    | ⟨0, _⟩ => rfl
    | ⟨1, _⟩ => exact Subsingleton.elim (α := Fin 1) _ _
  have hs : scatter_S32768_S16x1_S16_n_0_0_1.start (ix1 i) idx 0 = (idx (ix2 i (0 : Fin 1))).toInt := by
    rw [← hc ⟨0, by decide⟩]; rfl
  rw [resultIdx?_ix1, hs, hw]; omega

/-- The marks at row `x`. -/
theorem marks_full (x : Fin 32768) : marks full (ix1 x) = BitVec.ofNat 32 (mark x.val) := by
  have hl : ∀ i : Fin 16, scatter_S32768_S16x1_S16_n_0_0_1.resultIdx? (ix1 i) (broadcastInDim S16x1 ![0] bcast_S16_S16x1_0 (wrapped full)) = some (ix1 x)
      ↔ 2048 * i.val = x.val := fun i => by
    rw [mark_lands, bcCol, wrapped_full, StableHlo.Predicate.toInt_ofNat_small _ (by have := i.isLt; omega)]; omega
  unfold marks
  rw [scatter_at]
  refine Eq.trans (b := (List.finRange (shape1 16).numel).foldl (fun a n => if 2048 * n.val = x.val then IntOp.addi a 1#32 else a) (BitVec.ofNat 32 0)) ?_ ?_
  · refine congrArg (fun f => List.foldl f _ _) (funext fun a => funext fun n => ?_)
    rw [symm1]
    exact if_congr (hl _) rfl rfl
  · rw [fold_hits, Nat.zero_add, countP_finRange _ (fun i => 2048 * i = x.val), numel1, count_starts _ x.isLt]

/-- Row `r` has rank `r / 2048`. -/
theorem ranks_full (r : Fin 32768) : ranks full (ix1 r) = BitVec.ofNat 32 (r.val / 2048) := by
  show Host.reduceWindow IntOp.addi ![32768] ![1] ![32767] ![0] (marks full) _ _ _ (ix1 r) - 1#32 = _
  rw [cumsum1 (N := 32768) (Nm1 := 32767) rfl (marks full) mark marks_full _ rfl _ _ r, sum_mark]
  exact StableHlo.Predicate.sub_one_ofNat _ (by omega) (by have := r.isLt; omega)

/-- So it looks up place `r / 2048`. -/
theorem places_full (r : Fin 32768) : places full (ix2 r (0 : Fin 1)) = BitVec.ofNat 32 (r.val / 2048) := by
  unfold places
  rw [bcCol]
  show Scalar.select (IntOp.cmpi .slt (ranks full (ix1 r)) 0#32) _ (ranks full (ix1 r)) = _
  rw [ranks_full]
  exact wrap_small _ (by have := r.isLt; omega) _

/-- Which lies inside the table. -/
theorem inside_full (r : Fin 32768) : inside full (ix1 r) = 1#1 := by
  unfold inside
  refine Host.reduce_andi_one _ _ _ _ _ rfl fun i => ?_
  obtain ⟨q, rfl⟩ : ∃ q : Fin 32768, i = ix2 q (0 : Fin 1) := ⟨i 0, (eq_ix2 i).trans (congrArg (ix2 (i 0)) (Subsingleton.elim (α := Fin 1) _ _))⟩
  have hq : q.val / 2048 ≤ 15 := by have := q.isLt; omega
  have h0 : (BitVec.ofNat 32 (q.val / 2048)).toNat = q.val / 2048 := by rw [BitVec.toNat_ofNat]; omega
  show IntOp.andi (IntOp.cmpi .sge (places full (ix2 q 0)) 0#32) (IntOp.cmpi .sle (places full (ix2 q 0)) 15#32) = 1#1
  rw [places_full, (StableHlo.Predicate.sge_iff_toNat (by rw [h0]; omega) (by decide)).2 (Nat.zero_le _),
    (StableHlo.Predicate.sle_iff_toNat (by rw [h0]; omega) (by decide)).2 (by rw [h0]; exact hq)]
  rfl

/-- Row `r` lies in segment `r / 2048`. -/
theorem ids_full (r : Fin 32768) : ids full (ix1 r) = BitVec.ofNat 32 (r.val / 2048) := by
  have hr : r.val / 2048 < 16 := by have := r.isLt; omega
  unfold ids
  rw [select_apply, inside_full, select_one, gather_take1 gather_S16_S32768x1_S32768_n_0_n_n_0_1_1 rfl rfl rfl rfl _ _ r ⟨r.val / 2048, hr⟩ (places_full r) (by decide)]
  rfl

end Cert.Proof.Segments

end
-- ==== Proof.SegSum.lean ====
/-
  The sums over the segments, at the reals: what the reference's scatter adds up for a segment is the two halves that the kernel's
  vector subcores add up for it, added.
-/
module

public import proofs.«01_k».proof.Proof.SegIds
public import proofs.«01_k».proof.Proof.BodyIdeal
public import Idealize.ShloMosaic.PureOps.Ideal.Laws

@[expose] public section

noncomputable section

namespace Cert.Proof.Segments

open Idealize.ShloMosaic hiding ix1 ix2 ix3 eq_ix1 eq_ix2 eq_ix3 sum_idx2
open Cert.ReferenceIdeal Cert.ReferenceIdeal.Gen Idealize.ShloMosaic.ValueIdx Idealize.ShloMosaic.Routing
open Cert.Proof.KernelIdeal (rowAt addRow colAcc joined partials)

/-! ## The reference's side -/

/-- The two tables side by side. -/
def both (X Y : FVec Ideal S32768x256 .f32) : FVec Ideal S32768x512 .f32 :=
  concatenate S32768x512 1 [⟨S32768x256, X⟩, ⟨S32768x256, Y⟩] concatenates_S32768x256_S32768x256_S32768x512_d1

/-- The reference's sums over the segments. -/
def segSum (X Y : FVec Ideal S32768x256 .f32) (a : IVec S16 32) : FVec Ideal S16x512 .f32 :=
  Host.scatterAdd scatter_S16x512_S32768x1_S32768x512_1_0_0_1 (broadcastInDim S16x512 ![] bcast_S_S16x512 (constant S_ .f32 0x00000000#32))
    (broadcastInDim S32768x1 ![0] bcast_S32768_S32768x1_0 (ids a)) (both X Y)

/-- Row `r` of the two tables, joined: what the kernel's accumulators add for it. -/
def rowBoth (X Y : FVec Ideal S32768x256 .f32) (r : ℕ) (k : Fin 512) : EReal :=
  joined (F := Ideal) (rowAt X r) (rowAt Y r) (ix1 k)

/-- Two half rows joined, at a column. -/
theorem joined_apply (A B : Fin 256 → EReal) (k : Fin 512) :
    joined (F := Ideal) A B (ix1 k) = if h : k.val < 256 then A ⟨k.val, h⟩ else B ⟨k.val - 256, by have := k.isLt; omega⟩ := rfl

/-- The tables side by side at an index. -/
theorem both_apply (X Y : FVec Ideal S32768x256 .f32) (r : Fin 32768) (k : Fin 512) : both X Y (ix2 r k) = rowBoth X Y r.val k := by
  have hr : min r.val 32767 = r.val := by have := r.isLt; omega
  unfold both rowBoth
  rw [joined_apply]
  by_cases h : k.val < 256
  · rw [dif_pos h]
    refine concatenate_pair_apply_left (t := S32768x512) (1 : Fin 2) X Y _ _ rfl _ fun b => ?_
    match b with
    | ⟨0, _⟩ => exact hr
    | ⟨1, _⟩ => rfl
  · rw [dif_neg h]
    refine concatenate_pair_apply_right (t := S32768x512) (1 : Fin 2) X Y _ _ rfl rfl _ (fun b hb => ?_) ?_
    · match b with
      | ⟨0, _⟩ => exact hr
      | ⟨1, _⟩ => exact absurd rfl hb
    · show k.val - 256 + 256 = k.val
      omega

/-- Element `(r, c)` of the tables is added to element `(s, k)` exactly when row `r`'s segment is `s` and `c` is `k`. -/
theorem row_lands (idx : IVec S32768x1 32) (r : Fin 32768) (c : Fin 512) (s : Fin 16) (k : Fin 512) :
    scatter_S16x512_S32768x1_S32768x512_1_0_0_1.resultIdx? (ix2 r c) idx = some (ix2 s k)
      ↔ (idx (ix2 r (0 : Fin 1))).toInt = (s.val : Int) ∧ c = k := by
  have hw0 : scatter_S16x512_S32768x1_S32768x512_1_0_0_1.window (ix2 r c) 0 = 0 := rfl
  have hw1 : scatter_S16x512_S32768x1_S32768x512_1_0_0_1.window (ix2 r c) 1 = c.val := rfl
  have hc : ∀ q, scatter_S16x512_S32768x1_S32768x512_1_0_0_1.siIdx (ix2 r c) q = ix2 r (0 : Fin 1) := fun q => by
    funext b
    match b with
    | ⟨0, _⟩ => rfl
    | ⟨1, _⟩ => exact Subsingleton.elim (α := Fin 1) _ _
  have hs0 : scatter_S16x512_S32768x1_S32768x512_1_0_0_1.start (ix2 r c) idx 0 = (idx (ix2 r (0 : Fin 1))).toInt := by
    rw [← hc ⟨0, by decide⟩]; rfl
  have hs1 : scatter_S16x512_S32768x1_S32768x512_1_0_0_1.start (ix2 r c) idx 1 = 0 := rfl
  rw [resultIdx?_ix2, hs0, hw0, hs1, hw1, Fin.ext_iff]; omega

/-- Summing over the rows of segment `s` is summing 2048 terms from row `2048 s` on. -/
theorem sum_segment (f : ℕ → EReal) (s : Fin 16) :
    (∑ r : Fin 32768, if r.val / 2048 = s.val then f r.val else 0) = ∑ t ∈ Finset.range 2048, f (2048 * s.val + t) := by
  rw [Fin.sum_univ_eq_sum_range (fun r => if r / 2048 = s.val then f r else 0) 32768, ← Finset.sum_filter]
  have e : (Finset.range 32768).filter (fun r => r / 2048 = s.val) = Finset.Ico (2048 * s.val) (2048 * s.val + 2048) := by
    ext r
    have := s.isLt
    simp only [Finset.mem_filter, Finset.mem_range, Finset.mem_Ico]
    omega
  rw [e, Finset.sum_Ico_eq_sum_range, Nat.add_sub_cancel_left]

/-- A scatter that adds each row of 512 to the row its index word names: element `(s, k)` gains column `k` of the rows that name `s`. -/
theorem scatter_rows (x : FVec Ideal S16x512 .f32) (idx : IVec S32768x1 32) (upd : FVec Ideal S32768x512 .f32) (s : Fin 16) (k : Fin 512) :
    Host.scatterAdd scatter_S16x512_S32768x1_S32768x512_1_0_0_1 x idx upd (ix2 s k)
      = (x (ix2 s k) : EReal) + ∑ r : Fin 32768, if (idx (ix2 r (0 : Fin 1))).toInt = (s.val : Int) then (upd (ix2 r k) : EReal) else 0 := by
  unfold Host.scatterAdd
  rw [Ideal.hostScatterAdd_def]
  unfold Ideal.hostScatterAdd
  rw [Finset.sum_filter, sum_idx2]
  refine congrArg (fun y : EReal => x (ix2 s k) + y) (Finset.sum_congr rfl fun r _ => ?_)
  refine (Finset.sum_eq_single k (fun c _ hc => ?_) (fun h => absurd (Finset.mem_univ k) h)).trans ?_
  · exact if_neg fun h => hc ((row_lands idx r c s k).1 h).2
  · exact if_congr ((row_lands idx r k s k).trans (and_iff_left rfl)) rfl rfl

/-- Row `r`'s index word is `r / 2048`. -/
theorem idx_full (r : Fin 32768) : ((broadcastInDim S32768x1 ![0] bcast_S32768_S32768x1_0 (ids full)) (ix2 r (0 : Fin 1))).toInt = ((r.val / 2048 : ℕ) : Int) := by
  rw [bcCol, ids_full, StableHlo.Predicate.toInt_ofNat_small _ (by have := r.isLt; omega)]

/-- On full segments the reference's sum for segment `s` runs over rows `2048 s … 2048 s + 2047`. -/
theorem segSum_full (X Y : FVec Ideal S32768x256 .f32) (s : Fin 16) (k : Fin 512) :
    segSum X Y full (ix2 s k) = ∑ t ∈ Finset.range 2048, rowBoth X Y (2048 * s.val + t) k := by
  have hz : (broadcastInDim S16x512 ![] bcast_S_S16x512 (constant (F := Ideal) S_ .f32 0x00000000#32)) (ix2 s k) = (0 : EReal) :=
    (bc0 _ _ _).trans Ideal.ofBits_zero_f32
  unfold segSum
  rw [scatter_rows, hz, zero_add, ← sum_segment (fun r => rowBoth X Y r k) s]
  exact Finset.sum_congr rfl fun r _ => if_congr (by rw [idx_full, Int.natCast_inj]) (both_apply X Y r k) rfl

/-! ## The kernel's side -/

/-- The accumulator after `n` rows from row `b` on. -/
theorem colAcc_sum (T : FVec Ideal S32768x256 .f32) (b n : ℕ) (c : Fin 256) :
    colAcc (F := Ideal) T b n c = ∑ t ∈ Finset.range n, (rowAt T (b + t) c : EReal) := by
  induction n with
  | zero => exact Ideal.ofBits_zero_f32
  | succ n ih =>
    rw [Finset.sum_range_succ, ← ih]
    rfl

/-- Row `q` of the partial sums. -/
theorem partials_sum (X Y : FVec Ideal S32768x256 .f32) (q : Fin 32) (k : Fin 512) :
    partials (F := Ideal) X Y (ix2 q k) = ∑ t ∈ Finset.range 1024, rowBoth X Y (1024 * q.val + t) k := by
  show joined (F := Ideal) (colAcc X (1024 * q.val) 1024) (colAcc Y (1024 * q.val) 1024) (ix1 k) = _
  rw [joined_apply]
  by_cases h : k.val < 256
  · rw [dif_pos h, colAcc_sum]
    exact Finset.sum_congr rfl fun t _ => ((joined_apply _ _ k).trans (dif_pos h)).symm
  · rw [dif_neg h, colAcc_sum]
    exact Finset.sum_congr rfl fun t _ => ((joined_apply _ _ k).trans (dif_neg h)).symm

/-- The two halves of segment `s` add up to its sum. -/
theorem halves_sum (X Y : FVec Ideal S32768x256 .f32) (s : Fin 16) (k : Fin 512) (p q : Fin 32) (hp : p.val = 2 * s.val) (hq : q.val = 2 * s.val + 1) :
    (partials (F := Ideal) X Y (ix2 p k) + partials (F := Ideal) X Y (ix2 q k) : EReal) = segSum X Y full (ix2 s k) := by
  have hs : ∑ t ∈ Finset.range 2048, rowBoth X Y (2048 * s.val + t) k
      = ∑ t ∈ Finset.range 1024, rowBoth X Y (2048 * s.val + t) k + ∑ t ∈ Finset.range 1024, rowBoth X Y (2048 * s.val + (1024 + t)) k :=
    Finset.sum_range_add (fun t => rowBoth X Y (2048 * s.val + t) k) 1024 1024
  rw [segSum_full, hs, partials_sum, partials_sum]
  refine congrArg₂ (fun a b : EReal => a + b) (Finset.sum_congr rfl fun t _ => ?_) (Finset.sum_congr rfl fun t _ => ?_)
  · exact congrArg (fun r => rowBoth X Y r k) (by omega)
  · exact congrArg (fun r => rowBoth X Y r k) (by omega)

end Cert.Proof.Segments

end
-- ==== Proof.Head.lean ====
/-
  The network above the sums, at the reals: what the kernel's TensorCore part computes from the pooled sums, the counts and the
  weights is what the reference computes from them.
-/
module

public import proofs.«01_k».proof.Proof.SegSum
public import proofs.«01_k».proof.Proof.RegionIdeal
public import Idealize.ShloMosaic.Lib.Pointwise
public import Idealize.ShloMosaic.Lib.KernelVsHost

@[expose] public section

noncomputable section

namespace Cert.Proof.Segments

open Idealize.ShloMosaic hiding ix1 ix2 ix3 eq_ix1 eq_ix2 eq_ix3 sum_idx2
open Cert.ReferenceIdeal Cert.ReferenceIdeal.Gen Idealize.ShloMosaic.ValueIdx Idealize.ShloMosaic.Routing
open Cert.Proof.KernelIdeal (head half)

/-! ## The pieces -/

/-- Each segment's sums divided by its count: the count cast and stretched along the row, or stretched and then cast. -/
theorem mean_eq (S : FVec Ideal S16x512 .f32) (a : IVec S16 32) (h1 : S16.ShapeCasts S16x1) (h2 : S16x1.ShapeCasts S16x1) (h3 : S16x1.Broadcasts S16x512)
    (h4 : S16.BroadcastsInDim S16x1 (![0] : Fin 1 → Fin 2)) (h5 : S16x1.BroadcastsInDim S16x512 (![0, 1] : Fin 2 → Fin 2)) :
    divf S (broadcastTo S16x512 (shapeCast S16x1 (shapeCast S16x1 (sitofp (F := Ideal) .f32 a) h1) h2) h3)
      = Host.divf S (broadcastInDim S16x512 ![0, 1] h5 (sitofp .f32 (broadcastInDim S16x1 ![0] h4 a))) := by
  funext i
  pointwise

/-- A bias of 256 stretched over the sixteen rows. -/
theorem bias_eq (b : FVec Ideal S256 .f32) (h1 : S256.ShapeCasts S1x256) (h2 : S1x256.ShapeCasts S1x256) (h3 : S1x256.Broadcasts S16x256)
    (h4 : S256.BroadcastsInDim S1x256 (![1] : Fin 1 → Fin 2)) (h5 : S1x256.BroadcastsInDim S16x256 (![0, 1] : Fin 2 → Fin 2)) :
    broadcastTo S16x256 (shapeCast S1x256 (shapeCast S1x256 b h1) h2) h3 = broadcastInDim S16x256 ![0, 1] h5 (broadcastInDim S1x256 ![1] h4 b) := by
  funext i
  pointwise

/-- The last bias stretched over the sixteen rows. -/
theorem bias_one_eq (b : FVec Ideal S1 .f32) (h1 : S1.ShapeCasts S1x1) (h2 : S1x1.ShapeCasts S1x1) (h3 : S1x1.Broadcasts S16x1)
    (h4 : S1.BroadcastsInDim S1x1 (![1] : Fin 1 → Fin 2)) (h5 : S1x1.BroadcastsInDim S16x1 (![0, 1] : Fin 2 → Fin 2)) :
    broadcastTo S16x1 (shapeCast S1x1 (shapeCast S1x1 b h1) h2) h3 = broadcastInDim S16x1 ![0, 1] h5 (broadcastInDim S1x1 ![1] h4 b) := by
  funext i
  pointwise

/-- The two halves of the partial sums, cut out and added, are the sums over the segments. -/
theorem halves_eq (X Y : FVec Ideal S32768x256 .f32) (h1 : (⟨2, ![32, 512]⟩ : Shape).ShapeCasts ⟨3, ![16, 2, 512]⟩)
    (h2 : (⟨3, ![16, 1, 512]⟩ : Shape).ShapeCasts S16x512) :
    addf (F := Ideal) (φ := .f32) (shapeCast S16x512 (half 0 (shapeCast ⟨3, ![16, 2, 512]⟩ (KernelIdeal.partials (F := Ideal) X Y) h1)) h2)
        (shapeCast S16x512 (half 1 (shapeCast ⟨3, ![16, 2, 512]⟩ (KernelIdeal.partials (F := Ideal) X Y) h1)) h2)
      = segSum X Y full := by
  have hh : ∀ (s : Fin 16) (k : Fin 512) (h : Fin 2) (q : Fin 32), q.val = 2 * s.val + h.val →
      shapeCast S16x512 (half h (shapeCast ⟨3, ![16, 2, 512]⟩ (KernelIdeal.partials (F := Ideal) X Y) h1)) h2 (ix2 s k)
        = KernelIdeal.partials (F := Ideal) X Y (ix2 q k) := fun s k h q hq => by
    refine (shapeCast_apply _ h2 _ (ix3 s (0 : Fin 1) k) ?_).trans (shapeCast_apply _ h1 _ (ix2 q k) ?_)
    · rw [Shape.rowMajor_val_three, Shape.rowMajor_val_two]
      show (s.val * 1 + 0) * 512 + k.val = s.val * 512 + k.val
      omega
    · rw [Shape.rowMajor_val_three, Shape.rowMajor_val_two]
      show q.val * 512 + k.val = (s.val * 2 + h.val) * 512 + k.val
      omega
  funext i
  obtain ⟨s, k, rfl⟩ : ∃ (s : Fin 16) (k : Fin 512), i = ix2 s k := ⟨i 0, i 1, eq_ix2 i⟩
  have hs := s.isLt
  refine Eq.trans ?_ (halves_sum X Y s k ⟨2 * s.val, by omega⟩ ⟨2 * s.val + 1, by omega⟩ rfl rfl)
  exact congrArg₂ (fun a b : EReal => a + b) (hh s k 0 _ rfl) (hh s k 1 _ rfl)

/-! ## The network -/

/-- The reference's network, of the sums over the segments, the lengths and the weights. -/
def net (S : FVec Ideal S16x512 .f32) (a : IVec S16 32) (w1 : FVec Ideal S512x256 .f32) (b1 : FVec Ideal S256 .f32) (w2 : FVec Ideal S256x256 .f32)
    (b2 : FVec Ideal S256 .f32) (w3 : FVec Ideal S256x1 .f32) (b3 : FVec Ideal S1 .f32) : FVec Ideal S16x1 .f32 :=
  Host.divf (broadcastInDim S16x1 ![] bcast_S_S16x1 (constant S_ .f32 0x3F800000#32))
    (addf (broadcastInDim S16x1 ![] bcast_S_S16x1 (constant S_ .f32 0x3F800000#32))
      (Host.exp (Host.negf (addf
        (Host.dotGeneral dot_S16x256_S256x1_S16x1_1_0_0_1_n_n none
          (maximumf (addf (Host.dotGeneral dot_S16x256_S256x256_S16x256_1_0_0_1_n_n none
            (maximumf (addf (Host.dotGeneral dot_S16x512_S512x256_S16x256_1_0_0_1_n_n none
              (Host.divf S (broadcastInDim S16x512 ![0, 1] bcast_S16x1_S16x512_0_1 (sitofp .f32 (broadcastInDim S16x1 ![0] bcast_S16_S16x1_0 a)))) w1)
              (broadcastInDim S16x256 ![0, 1] bcast_S1x256_S16x256_0_1 (broadcastInDim S1x256 ![1] bcast_S256_S1x256_1 b1)))
              (broadcastInDim S16x256 ![] bcast_S_S16x256 (constant S_ .f32 0x00000000#32))) w2)
            (broadcastInDim S16x256 ![0, 1] bcast_S1x256_S16x256_0_1 (broadcastInDim S1x256 ![1] bcast_S256_S1x256_1 b2)))
            (broadcastInDim S16x256 ![] bcast_S_S16x256 (constant S_ .f32 0x00000000#32))) w3)
        (broadcastInDim S16x1 ![0, 1] bcast_S1x1_S16x1_0_1 (broadcastInDim S1x1 ![1] bcast_S1_S1x1_1 b3))))))

/-- A layer before its threshold: the kernel's product onto zero plus its bias is the reference's. -/
theorem layer_eq {sl sr so : Shape} (d d' : DotDims sl sr so) (hd : d = d') (x x' : FVec Ideal sl .f32) (hx : x = x') (w : FVec Ideal sr .f32)
    (b b' : FVec Ideal so .f32) (hb : b = b') :
    addf (matmul d none x w (constant so .f32 0x00000000#32)) b = addf (Host.dotGeneral d' none x' w) b' := by
  subst hd hx hb
  rw [matmul_zero_eq_dotGeneral]

/-- The logistic function as the two programs write it. -/
theorem logistic_eq (x x' : FVec Ideal S16x1 .f32) (hx : x = x') :
    divf (broadcast S16x1 (Scalar.ofBits (F := Ideal) .f32 0x3F800000#32))
        (addf (broadcast S16x1 (Scalar.ofBits (F := Ideal) .f32 0x3F800000#32)) (exp (subf (broadcast S16x1 (Scalar.ofBits (F := Ideal) .f32 0x00000000#32)) x)))
      = Host.divf (broadcastInDim S16x1 ![] bcast_S_S16x1 (constant S_ .f32 0x3F800000#32))
        (addf (broadcastInDim S16x1 ![] bcast_S_S16x1 (constant S_ .f32 0x3F800000#32)) (Host.exp (Host.negf x'))) := by
  subst hx
  rw [subf_zero_eq_hostNegf]
  rfl

/-- A threshold at zero as the two programs write it. -/
theorem relu_eq (x x' : FVec Ideal S16x256 .f32) (hx : x = x') :
    maximumf x (broadcast S16x256 (Scalar.ofBits (F := Ideal) .f32 0x00000000#32))
      = maximumf x' (broadcastInDim S16x256 ![] bcast_S_S16x256 (constant S_ .f32 0x00000000#32)) := by
  subst hx
  rfl

/-- The kernel's network is the reference's, when the two halves it is given add up to the sums. -/
theorem head_eq (S : FVec Ideal S16x512 .f32) (P : FVec Ideal ⟨3, ![16, 2, 512]⟩ .f32) (a : IVec S16 32) (w1 : FVec Ideal S512x256 .f32)
    (b1 : FVec Ideal S256 .f32) (w2 : FVec Ideal S256x256 .f32) (b2 : FVec Ideal S256 .f32) (w3 : FVec Ideal S256x1 .f32) (b3 : FVec Ideal S1 .f32)
    (ha : S16.ShapeCasts S16x1) (hb : S256.ShapeCasts S1x256) (hc : S1.ShapeCasts S1x1) (h2 : (⟨3, ![16, 1, 512]⟩ : Shape).ShapeCasts S16x512)
    (hS : addf (F := Ideal) (φ := .f32) (shapeCast S16x512 (half 0 P) h2) (shapeCast S16x512 (half 1 P) h2) = S) :
    head (F := Ideal) P (shapeCast S16x1 (sitofp (F := Ideal) .f32 a) ha) w1 (shapeCast S1x256 b1 hb) w2 (shapeCast S1x256 b2 hb) w3 (shapeCast S1x1 b3 hc)
      = net S a w1 b1 w2 b2 w3 b3 := by
  subst hS
  unfold head Cert.KernelIdeal.Gen.k1_pay1 Cert.KernelIdeal.Gen.k1_pay2 net
  refine logistic_eq _ _ (layer_eq _ _ rfl _ _ (relu_eq _ _ (layer_eq _ _ rfl _ _ (relu_eq _ _ (layer_eq _ _ rfl _ _ ?_ w1 _ _ ?_)) w2 _ _ ?_)) w3 _ _ ?_)
  · exact mean_eq _ a _ _ _ _ _
  · exact bias_eq b1 _ _ _ _ _
  · exact bias_eq b2 _ _ _ _ _
  · exact bias_one_eq b3 _ _ _ _ _

end Cert.Proof.Segments

end
-- ==== Proof.Value.lean ====
/-
  The value claim: on full segments the kernel's result is the reference's.
-/
module

public import proofs.«01_k».proof.Proof.Frames
public import proofs.«01_k».proof.Proof.Head

@[expose] public section

noncomputable section

namespace Cert.Proof

open Idealize.ShloMosaic Idealize.SL.Sem
open Cert.Proof.Segments (full segSum net head_eq halves_eq)

/-- The kernel's memories, at the reals. -/
abbrev KMem := (ℓ : Loc Cert.KernelIdeal.nD Cert.KernelIdeal.τ Cert.KernelIdeal.sig) → Buf (Elt Ideal) ℓ
/-- The reference's. -/
abbrev RMem := (ℓ : Loc Cert.ReferenceIdeal.nD Cert.ReferenceIdeal.τ Cert.ReferenceIdeal.sig) → Buf (Elt Ideal) ℓ

/-- The precondition says that every segment's length is 2048. -/
theorem lengths_full (m : KMem) (h : Cert.Pre_KernelIdeal_full_segments (hPre_full_segments := Cert.Pre_full_segments.Gen.facts) m) (c : Dev Cert.KernelIdeal.nD) :
    m ((c.tc : Thread Cert.KernelIdeal.nD Cert.KernelIdeal.τ).loc Cert.KernelIdeal.main_arg8) = full := by
  funext i
  haveI : Subsingleton Cert.Pre_full_segments.S_.Idx := ⟨fun a b => funext fun x => x.elim0⟩
  exact StableHlo.Predicate.cmpi_eq_iff.1 (Host.reduce_andi_all _ _ _ _ _ (congrFun (h c) ValueIdx.ix0) i)

/-- The reference's result, by the names of the sums and of the network. -/
theorem reference_result (m : RMem) (c : Dev Cert.ReferenceIdeal.nD) :
    Cert.ReferenceIdeal.Value.res_main_v46 (F := Ideal) m c
      = shapeCast Cert.ReferenceIdeal.S16
          (net (segSum (m ((c.tc : Thread Cert.ReferenceIdeal.nD Cert.ReferenceIdeal.τ).loc Cert.ReferenceIdeal.main_arg0))
              (m ((c.tc : Thread Cert.ReferenceIdeal.nD Cert.ReferenceIdeal.τ).loc Cert.ReferenceIdeal.main_arg1))
              (m ((c.tc : Thread Cert.ReferenceIdeal.nD Cert.ReferenceIdeal.τ).loc Cert.ReferenceIdeal.main_arg8)))
            (m ((c.tc : Thread Cert.ReferenceIdeal.nD Cert.ReferenceIdeal.τ).loc Cert.ReferenceIdeal.main_arg8))
            (m ((c.tc : Thread Cert.ReferenceIdeal.nD Cert.ReferenceIdeal.τ).loc Cert.ReferenceIdeal.main_arg2))
            (m ((c.tc : Thread Cert.ReferenceIdeal.nD Cert.ReferenceIdeal.τ).loc Cert.ReferenceIdeal.main_arg3))
            (m ((c.tc : Thread Cert.ReferenceIdeal.nD Cert.ReferenceIdeal.τ).loc Cert.ReferenceIdeal.main_arg4))
            (m ((c.tc : Thread Cert.ReferenceIdeal.nD Cert.ReferenceIdeal.τ).loc Cert.ReferenceIdeal.main_arg5))
            (m ((c.tc : Thread Cert.ReferenceIdeal.nD Cert.ReferenceIdeal.τ).loc Cert.ReferenceIdeal.main_arg6))
            (m ((c.tc : Thread Cert.ReferenceIdeal.nD Cert.ReferenceIdeal.τ).loc Cert.ReferenceIdeal.main_arg7)))
          Cert.ReferenceIdeal.Gen.shapeCasts_S16x1_S16 := by
  unfold Cert.ReferenceIdeal.Value.res_main_v46 net segSum Segments.both Segments.ids Segments.inside Segments.places Segments.ranks Segments.marks
    Segments.wrapped Segments.starts Segments.shifted
  rfl

/-- The kernel's result on full segments, by the same names. -/
theorem kernel_result (m : KMem) (d : Dev Cert.KernelIdeal.nD)
    (h : m ((d.tc : Thread Cert.KernelIdeal.nD Cert.KernelIdeal.τ).loc Cert.KernelIdeal.main_arg8) = full) :
    KernelIdeal.result (F := Ideal) m d
      = shapeCast Cert.ReferenceIdeal.S16
          (net (segSum (m ((d.tc : Thread Cert.KernelIdeal.nD Cert.KernelIdeal.τ).loc Cert.KernelIdeal.main_arg0))
              (m ((d.tc : Thread Cert.KernelIdeal.nD Cert.KernelIdeal.τ).loc Cert.KernelIdeal.main_arg1))
              (m ((d.tc : Thread Cert.KernelIdeal.nD Cert.KernelIdeal.τ).loc Cert.KernelIdeal.main_arg8)))
            (m ((d.tc : Thread Cert.KernelIdeal.nD Cert.KernelIdeal.τ).loc Cert.KernelIdeal.main_arg8))
            (m ((d.tc : Thread Cert.KernelIdeal.nD Cert.KernelIdeal.τ).loc Cert.KernelIdeal.main_arg2))
            (m ((d.tc : Thread Cert.KernelIdeal.nD Cert.KernelIdeal.τ).loc Cert.KernelIdeal.main_arg3))
            (m ((d.tc : Thread Cert.KernelIdeal.nD Cert.KernelIdeal.τ).loc Cert.KernelIdeal.main_arg4))
            (m ((d.tc : Thread Cert.KernelIdeal.nD Cert.KernelIdeal.τ).loc Cert.KernelIdeal.main_arg5))
            (m ((d.tc : Thread Cert.KernelIdeal.nD Cert.KernelIdeal.τ).loc Cert.KernelIdeal.main_arg6))
            (m ((d.tc : Thread Cert.KernelIdeal.nD Cert.KernelIdeal.τ).loc Cert.KernelIdeal.main_arg7)))
          Cert.ReferenceIdeal.Gen.shapeCasts_S16x1_S16 := by
  refine congrArg (fun x => shapeCast Cert.ReferenceIdeal.S16 x Cert.ReferenceIdeal.Gen.shapeCasts_S16x1_S16) (head_eq _ _ _ _ _ _ _ _ _ _ _ _ Cert.KernelIdeal.Gen.shapeCasts_S16x1x512_S16x512 ?_)
  rw [h]
  exact halves_eq _ _ _ _

/-- On full segments and equal arguments the kernel's result is the reference's. -/
theorem algebraic : Cert.algebraic_KernelIdeal_ReferenceIdeal_pre_full_segments (hKernelIdeal := Cert.KernelIdeal.Gen.facts)
    (hReferenceIdeal := Cert.ReferenceIdeal.Gen.facts) (hPre_full_segments := Cert.Pre_full_segments.Gen.facts) :=
  algebraic_of fun m m' c hpre hag => by
    obtain ⟨e0, e1, e2, e3, e4, e5, e6, e7, e8⟩ := hag
    rw [kernel_result m c (lengths_full m hpre c), reference_result m' c, e0, e1, e2, e3, e4, e5, e6, e7, e8]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_full_segments
public import proofs.«01_k».proof.Proof.Value
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_full_segments.Gen.facts,
  frame_kernel, frame_ideal, fun m g _ => frame_ideal m g trivial, frame_reference, fun m g _ => frame_reference m g trivial, trivial, algebraic⟩

end Cert.Proof

end
